-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10)
      ∧ r.2.mem ((c.tc : Thread Cert.MixIn.nD Cert.MixIn.τ).loc Cert.MixIn.main_arg11) = m ((c.tc : Thread Cert.MixIn.nD Cert.MixIn.τ).loc Cert.MixIn.main_arg11))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8)
      ∧ r.2.mem ((c.tc : Thread Cert.MixInReferenceIdeal.nD Cert.MixInReferenceIdeal.τ).loc Cert.MixInReferenceIdeal.main_arg9) = m ((c.tc : Thread Cert.MixInReferenceIdeal.nD Cert.MixInReferenceIdeal.τ).loc Cert.MixInReferenceIdeal.main_arg9)
      ∧ r.2.mem ((c.tc : Thread Cert.MixInReferenceIdeal.nD Cert.MixInReferenceIdeal.τ).loc Cert.MixInReferenceIdeal.main_arg10) = m ((c.tc : Thread Cert.MixInReferenceIdeal.nD Cert.MixInReferenceIdeal.τ).loc Cert.MixInReferenceIdeal.main_arg10)
      ∧ r.2.mem ((c.tc : Thread Cert.MixInReferenceIdeal.nD Cert.MixInReferenceIdeal.τ).loc Cert.MixInReferenceIdeal.main_arg11) = m ((c.tc : Thread Cert.MixInReferenceIdeal.nD Cert.MixInReferenceIdeal.τ).loc Cert.MixInReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v4) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v5) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)
      ∧ m' ((c.tc : Thread Cert.MixInReferenceIdeal.nD Cert.MixInReferenceIdeal.τ).loc Cert.MixInReferenceIdeal.main_arg6) = m ((c.tc : Thread Cert.MixInIdeal.nD Cert.MixInIdeal.τ).loc Cert.MixInIdeal.main_arg6)
      ∧ m' ((c.tc : Thread Cert.MixInReferenceIdeal.nD Cert.MixInReferenceIdeal.τ).loc Cert.MixInReferenceIdeal.main_arg7) = m ((c.tc : Thread Cert.MixInIdeal.nD Cert.MixInIdeal.τ).loc Cert.MixInIdeal.main_arg7)
      ∧ m' ((c.tc : Thread Cert.MixInReferenceIdeal.nD Cert.MixInReferenceIdeal.τ).loc Cert.MixInReferenceIdeal.main_arg8) = m ((c.tc : Thread Cert.MixInIdeal.nD Cert.MixInIdeal.τ).loc Cert.MixInIdeal.main_arg8)
      ∧ m' ((c.tc : Thread Cert.MixInReferenceIdeal.nD Cert.MixInReferenceIdeal.τ).loc Cert.MixInReferenceIdeal.main_arg9) = m ((c.tc : Thread Cert.MixInIdeal.nD Cert.MixInIdeal.τ).loc Cert.MixInIdeal.main_arg9)
      ∧ m' ((c.tc : Thread Cert.MixInReferenceIdeal.nD Cert.MixInReferenceIdeal.τ).loc Cert.MixInReferenceIdeal.main_arg10) = m ((c.tc : Thread Cert.MixInIdeal.nD Cert.MixInIdeal.τ).loc Cert.MixInIdeal.main_arg10)
      ∧ m' ((c.tc : Thread Cert.MixInReferenceIdeal.nD Cert.MixInReferenceIdeal.τ).loc Cert.MixInReferenceIdeal.main_arg11) = m ((c.tc : Thread Cert.MixInIdeal.nD Cert.MixInIdeal.τ).loc Cert.MixInIdeal.main_arg11)) →
    ∃ (v0 : (c : Dev Cert.MixInIdeal.nD) → Buf (Elt Ideal) ((c.tc : Thread Cert.MixInIdeal.nD Cert.MixInIdeal.τ).loc Cert.MixInIdeal.main_v33_0)) (v1 : (c : Dev Cert.MixInIdeal.nD) → Buf (Elt Ideal) ((c.tc : Thread Cert.MixInIdeal.nD Cert.MixInIdeal.τ).loc Cert.MixInIdeal.main_v33_1)) (v2 : (c : Dev Cert.MixInIdeal.nD) → Buf (Elt Ideal) ((c.tc : Thread Cert.MixInIdeal.nD Cert.MixInIdeal.τ).loc Cert.MixInIdeal.main_v33_4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v33_0) = v0 c
          ∧ r.2.mem ((c.tc : Thread Cert.MixInIdeal.nD Cert.MixInIdeal.τ).loc Cert.MixInIdeal.main_v33_1) = v1 c
          ∧ r.2.mem ((c.tc : Thread Cert.MixInIdeal.nD Cert.MixInIdeal.τ).loc Cert.MixInIdeal.main_v33_4) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
          ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v47) = v0 c
          ∧ r.2.mem ((c.tc : Thread Cert.MixInReferenceIdeal.nD Cert.MixInReferenceIdeal.τ).loc Cert.MixInReferenceIdeal.main_v17) = v1 c
          ∧ r.2.mem ((c.tc : Thread Cert.MixInReferenceIdeal.nD Cert.MixInReferenceIdeal.τ).loc Cert.MixInReferenceIdeal.main_v48) = v2 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8)
          ∧ r.2.mem ((c.tc : Thread Cert.MixInReferenceIdeal.nD Cert.MixInReferenceIdeal.τ).loc Cert.MixInReferenceIdeal.main_arg9) = m' ((c.tc : Thread Cert.MixInReferenceIdeal.nD Cert.MixInReferenceIdeal.τ).loc Cert.MixInReferenceIdeal.main_arg9)
          ∧ r.2.mem ((c.tc : Thread Cert.MixInReferenceIdeal.nD Cert.MixInReferenceIdeal.τ).loc Cert.MixInReferenceIdeal.main_arg10) = m' ((c.tc : Thread Cert.MixInReferenceIdeal.nD Cert.MixInReferenceIdeal.τ).loc Cert.MixInReferenceIdeal.main_arg10)
          ∧ r.2.mem ((c.tc : Thread Cert.MixInReferenceIdeal.nD Cert.MixInReferenceIdeal.τ).loc Cert.MixInReferenceIdeal.main_arg11) = m' ((c.tc : Thread Cert.MixInReferenceIdeal.nD Cert.MixInReferenceIdeal.τ).loc Cert.MixInReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMixOut : Cert.MixOut.Facts) (hMixOutIdeal : Cert.MixOutIdeal.Facts) (hMixOutReferenceIdeal : Cert.MixOutReferenceIdeal.Facts) (hMixIn : Cert.MixIn.Facts) (hMixInIdeal : Cert.MixInIdeal.Facts) (hMixInReferenceIdeal : Cert.MixInReferenceIdeal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Ffn (hFfn := hFfn)
    ∧ quiescent_FfnIdeal (hFfnIdeal := hFfnIdeal)
    ∧ quiescent_FfnReferenceIdeal (hFfnReferenceIdeal := hFfnReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Ffn_FfnIdeal
    ∧ algebraic_FfnIdeal_FfnReferenceIdeal (hFfnIdeal := hFfnIdeal) (hFfnReferenceIdeal := hFfnReferenceIdeal)
    ∧ preserves_MixOut_MixOutIdeal
    ∧ algebraic_MixOutIdeal_MixOutReferenceIdeal (hMixOutIdeal := hMixOutIdeal) (hMixOutReferenceIdeal := hMixOutReferenceIdeal)
    ∧ preserves_MixIn_MixInIdeal
    ∧ algebraic_MixInIdeal_MixInReferenceIdeal (hMixInIdeal := hMixInIdeal) (hMixInReferenceIdeal := hMixInReferenceIdeal)
-- ==== Pre_finite_and_ones.lean ====
abbrev S4x8x8192x128 : Shape := ⟨4, ![4, 8, 8192, 128]⟩
abbrev S4x8x16x128x512 : Shape := ⟨5, ![4, 8, 16, 128, 512]⟩
abbrev S_ : Shape := ⟨0, ![]⟩
abbrev S4x8x16x1x512 : Shape := ⟨5, ![4, 8, 16, 1, 512]⟩
abbrev S4x8x16x512 : Shape := ⟨4, ![4, 8, 16, 512]⟩
abbrev S4x8x8192x1 : Shape := ⟨4, ![4, 8, 8192, 1]⟩

class Facts : Prop where
  bitsLt_bf16_f32 : FTy.bits .bf16 < FTy.bits .f32
  bcast_S_S4x8x8192x128 : S_.BroadcastsInDim S4x8x8192x128 (![] : Fin 0 → Fin S4x8x8192x128.rank)
  slices_S4x8x16x128x512_S4x8x16x1x512_0_0_0_64_0 : S4x8x16x128x512.Slices ![0, 0, 0, 64, 0] S4x8x16x1x512
  shapeCasts_S4x8x16x1x512_S4x8x16x512 : S4x8x16x1x512.ShapeCasts S4x8x16x512
  shapeCasts_S4x8x16x512_S4x8x8192x1 : S4x8x16x512.ShapeCasts S4x8x8192x1
  bcast_S_S4x8x8192x1 : S_.BroadcastsInDim S4x8x8192x1 (![] : Fin 0 → Fin S4x8x8192x1.rank)
  bcast_S4x8x8192x1_S4x8x8192x128_0_1_2_3 : S4x8x8192x1.BroadcastsInDim S4x8x8192x128 (![0, 1, 2, 3] : Fin 4 → Fin S4x8x8192x128.rank)

variable [Facts]

def fn {F : FTy → Type} [FloatOps F] (main_arg0 : FVec F S4x8x8192x128 .bf16) (main_arg1 : FVec F S4x8x8192x128 .bf16) (main_arg2 : FVec F S4x8x16x128x512 .bf16) : IVec S4x8x8192x128 1 :=
  let main_v0 : FVec F S4x8x8192x128 .f32 := (extf .f32 · bitsLt_bf16_f32) main_arg0
  let main_v1 : FVec F S4x8x8192x128 .f32 := Host.absf main_v0
  let main_cst : FVec F S_ .f32 := constant S_ .f32 0x7F800000#32
  let main_v2 : FVec F S4x8x8192x128 .f32 := broadcastInDim S4x8x8192x128 ![] bcast_S_S4x8x8192x128 main_cst
  let main_v3 : IVec S4x8x8192x128 1 := cmpf .olt main_v1 main_v2
  let main_v4 : FVec F S4x8x8192x128 .f32 := (extf .f32 · bitsLt_bf16_f32) main_arg1
  let main_v5 : FVec F S4x8x8192x128 .f32 := Host.absf main_v4
  let main_cst_0 : FVec F S_ .f32 := constant S_ .f32 0x7F800000#32
  let main_v6 : FVec F S4x8x8192x128 .f32 := broadcastInDim S4x8x8192x128 ![] bcast_S_S4x8x8192x128 main_cst_0
  let main_v7 : IVec S4x8x8192x128 1 := cmpf .olt main_v5 main_v6
  let main_v8 : IVec S4x8x8192x128 1 := andi main_v3 main_v7
  let main_v9 : FVec F S4x8x16x128x512 .f32 := (extf .f32 · bitsLt_bf16_f32) main_arg2
  let main_v10 : FVec F S4x8x16x1x512 .f32 := (extractStridedSlice S4x8x16x1x512 ![0, 0, 0, 64, 0] · slices_S4x8x16x128x512_S4x8x16x1x512_0_0_0_64_0) main_v9
  let main_v11 : FVec F S4x8x16x512 .f32 := shapeCast S4x8x16x512 main_v10 shapeCasts_S4x8x16x1x512_S4x8x16x512
  let main_v12 : FVec F S4x8x8192x1 .f32 := shapeCast S4x8x8192x1 main_v11 shapeCasts_S4x8x16x512_S4x8x8192x1
  let main_cst_1 : FVec F S_ .f32 := constant S_ .f32 0x3F800000#32
  let main_v13 : FVec F S4x8x8192x1 .f32 := broadcastInDim S4x8x8192x1 ![] bcast_S_S4x8x8192x1 main_cst_1
  let main_v14 : IVec S4x8x8192x1 1 := cmpf .oeq main_v12 main_v13
  let main_v15 : IVec S4x8x8192x128 1 := broadcastInDim S4x8x8192x128 ![0, 1, 2, 3] bcast_S4x8x8192x1_S4x8x8192x128_0_1_2_3 main_v14
  let main_v16 : IVec S4x8x8192x128 1 := andi main_v8 main_v15
  main_v16
-- ==== Kernel.lean ====
abbrev S4x8x8192x128 : Shape := ⟨4, ![4, 8, 8192, 128]⟩
abbrev S4x8x16x128x512 : Shape := ⟨5, ![4, 8, 16, 128, 512]⟩
abbrev S4x8192x512 : Shape := ⟨3, ![4, 8192, 512]⟩
abbrev S1x2x512x128 : Shape := ⟨4, ![1, 2, 512, 128]⟩
abbrev S1x2x8192x128 : Shape := ⟨4, ![1, 2, 8192, 128]⟩
abbrev S1x2x16x128x512 : Shape := ⟨5, ![1, 2, 16, 128, 512]⟩
abbrev S1x512x128 : Shape := ⟨3, ![1, 512, 128]⟩
abbrev S2x1x512 : Shape := ⟨3, ![2, 1, 512]⟩
abbrev S2x128x512 : Shape := ⟨3, ![2, 128, 512]⟩
abbrev S512x512 : Shape := ⟨2, ![512, 512]⟩
abbrev S1x1x512x128 : Shape := ⟨4, ![1, 1, 512, 128]⟩
abbrev S512x128 : Shape := ⟨2, ![512, 128]⟩
abbrev S1x512 : Shape := ⟨2, ![1, 512]⟩
abbrev S1x1x512 : Shape := ⟨3, ![1, 1, 512]⟩
abbrev S128x512 : Shape := ⟨2, ![128, 512]⟩
abbrev S1x128x512 : Shape := ⟨3, ![1, 128, 512]⟩
abbrev S512 : Shape := ⟨1, ![512]⟩
abbrev S1x1x1x128x512 : Shape := ⟨5, ![1, 1, 1, 128, 512]⟩
abbrev S64x512 : Shape := ⟨2, ![64, 512]⟩

abbrev nBuf : Space → Nat
  | .hbm => 4
  | .vmem => 10
  | .smem => 0
  | _ => 0

abbrev bufTy : (tb : Table) → Fin (tcTables nBuf tb) → BufTy
  | .hbm, ⟨0, _⟩ => ⟨S4x8x8192x128, .bf16⟩
  | .hbm, ⟨1, _⟩ => ⟨S4x8x8192x128, .bf16⟩
  | .hbm, ⟨2, _⟩ => ⟨S4x8x16x128x512, .bf16⟩
  | .hbm, ⟨3, _⟩ => ⟨S4x8192x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x8192x128, .bf16⟩
  | .local _ .vmem, ⟨3, _⟩ => ⟨S1x2x8192x128, .bf16⟩
  | .local _ .vmem, ⟨4, _⟩ => ⟨S1x2x16x128x512, .bf16⟩
  | .local _ .vmem, ⟨5, _⟩ => ⟨S1x2x16x128x512, .bf16⟩
  | .local _ .vmem, ⟨6, _⟩ => ⟨S1x512x128, .bf16⟩
  | .local _ .vmem, ⟨7, _⟩ => ⟨S1x512x128, .bf16⟩
  | .local _ .vmem, ⟨8, _⟩ => ⟨S2x1x512, .f32⟩
  | .local _ .vmem, ⟨9, _⟩ => ⟨S2x128x512, .f32⟩
  | _, _ => ⟨S4x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c512_i32 : BitVec 32 := 512#32
  let v13 : BitVec 32 := Scalar.muli arg2 c512_i32
  v13
def k0_off1 (i : grid0.Coords) : Fin 4 → Nat :=
  let c0_10 : Index := 0#32
  let c0_11 : Index := 0#32
  let arg2 : BitVec 32 := BitVec.ofNat 32 (i 2).val
  let c512_i32 : BitVec 32 := 512#32
  let v13 : BitVec 32 := Scalar.muli arg2 c512_i32
  let v14 : BitVec 32 := v13
  let v15 : Index := Scalar.indexCast v14
  let c0_12 : Index := 0#32
  ![0, 0, v15.toNat, 0]
def k0_off2 (i : grid0.Coords) : Fin 5 → Nat :=
  let c0_22 : Index := 0#32
  let c0_23 : Index := 0#32
  let arg2 : BitVec 32 := BitVec.ofNat 32 (i 2).val
  let v36 : Index := Scalar.indexCast arg2
  let c0_24 : Index := 0#32
  let c0_25 : Index := 0#32
  ![0, 0, v36.toNat, 0, 0]
@[reducible] def k0_t1_loop (i : grid0.Coords) : Scf.Loop 32 :=
  let c0_i32_33 : BitVec 32 := 0#32
  let arg2 : BitVec 32 := BitVec.ofNat 32 (i 2).val
  let v47 : BitVec 32 := Scalar.subi arg2 c0_i32_33
  let c1_i32 : BitVec 32 := 1#32
  let v49 : BitVec 32 := Scalar.divsi v47 c1_i32
  let v50 : BitVec 32 := Scalar.muli v49 c1_i32
  let v51 : BitVec 32 := Scalar.addi c0_i32_33 v50
  let c1_i32_34 : BitVec 32 := 1#32
  ⟨c0_i32_33, v51, c1_i32_34⟩
def k0_mult2 (i : grid0.Coords) (k0_t1 : Fin (k0_t1_loop i).trips) : BitVec 32 :=
  let arg2 : BitVec 32 := BitVec.ofNat 32 (i 2).val
  let c1_i32_85 : BitVec 32 := 1#32
  let v119 : BitVec 32 := Scalar.subi arg2 c1_i32_85
  let c0_i32_33 : BitVec 32 := 0#32
  let c1_i32_34 : BitVec 32 := 1#32
  let arg9 : BitVec 32 := Scf.iv c0_i32_33 c1_i32_34 k0_t1
  let v120 : BitVec 32 := Scalar.subi v119 arg9
  let c512_i32_86 : BitVec 32 := 512#32
  let v121 : BitVec 32 := Scalar.muli v120 c512_i32_86
  v121
def k0_off3 (i : grid0.Coords) (k0_t1 : Fin (k0_t1_loop i).trips) : Fin 4 → Nat :=
  let c0_87 : Index := 0#32
  let c0_88 : Index := 0#32
  let arg2 : BitVec 32 := BitVec.ofNat 32 (i 2).val
  let c1_i32_85 : BitVec 32 := 1#32
  let v119 : BitVec 32 := Scalar.subi arg2 c1_i32_85
  let c0_i32_33 : BitVec 32 := 0#32
  let c1_i32_34 : BitVec 32 := 1#32
  let arg9 : BitVec 32 := Scf.iv c0_i32_33 c1_i32_34 k0_t1
  let v120 : BitVec 32 := Scalar.subi v119 arg9
  let c512_i32_86 : BitVec 32 := 512#32
  let v121 : BitVec 32 := Scalar.muli v120 c512_i32_86
  let v122 : BitVec 32 := v121
  let v123 : Index := Scalar.indexCast v122
  let c0_89 : Index := 0#32
  ![0, 0, v123.toNat, 0]
def k0_off4 (i : grid0.Coords) (k0_t1 : Fin (k0_t1_loop i).trips) : Fin 5 → Nat :=
  let c0_98 : Index := 0#32
  let c0_99 : Index := 0#32
  let arg2 : BitVec 32 := BitVec.ofNat 32 (i 2).val
  let c1_i32_85 : BitVec 32 := 1#32
  let v119 : BitVec 32 := Scalar.subi arg2 c1_i32_85
  let c0_i32_33 : BitVec 32 := 0#32
  let c1_i32_34 : BitVec 32 := 1#32
  let arg9 : BitVec 32 := Scf.iv c0_i32_33 c1_i32_34 k0_t1
  let v120 : BitVec 32 := Scalar.subi v119 arg9
  let v142 : Index := Scalar.indexCast v120
  let c0_100 : Index := 0#32
  let c0_101 : Index := 0#32
  ![0, 0, v142.toNat, 0, 0]
@[reducible] def k0_t2_loop (i : grid0.Coords) : Scf.Loop 32 :=
  let c0_i32_33 : BitVec 32 := 0#32
  let arg2 : BitVec 32 := BitVec.ofNat 32 (i 2).val
  let v47 : BitVec 32 := Scalar.subi arg2 c0_i32_33
  let c1_i32 : BitVec 32 := 1#32
  let v49 : BitVec 32 := Scalar.divsi v47 c1_i32
  let v50 : BitVec 32 := Scalar.muli v49 c1_i32
  let v51 : BitVec 32 := Scalar.addi c0_i32_33 v50
  let v48 : BitVec 32 := Scalar.addi c0_i32_33 v47
  let c1_i32_35 : BitVec 32 := 1#32
  ⟨v51, v48, c1_i32_35⟩
def k0_mult3 (i : grid0.Coords) (k0_t2 : Fin (k0_t2_loop i).trips) : BitVec 32 :=
  let arg2 : BitVec 32 := BitVec.ofNat 32 (i 2).val
  let c1_i32_85 : BitVec 32 := 1#32
  let v119 : BitVec 32 := Scalar.subi arg2 c1_i32_85
  let c0_i32_33 : BitVec 32 := 0#32
  let v47 : BitVec 32 := Scalar.subi arg2 c0_i32_33
  let c1_i32 : BitVec 32 := 1#32
  let v49 : BitVec 32 := Scalar.divsi v47 c1_i32
  let v50 : BitVec 32 := Scalar.muli v49 c1_i32
  let v51 : BitVec 32 := Scalar.addi c0_i32_33 v50
  let c1_i32_35 : BitVec 32 := 1#32
  let arg9 : BitVec 32 := Scf.iv v51 c1_i32_35 k0_t2
  let v120 : BitVec 32 := Scalar.subi v119 arg9
  let c512_i32_86 : BitVec 32 := 512#32
  let v121 : BitVec 32 := Scalar.muli v120 c512_i32_86
  v121
def k0_off5 (i : grid0.Coords) (k0_t2 : Fin (k0_t2_loop i).trips) : Fin 4 → Nat :=
  let c0_87 : Index := 0#32
  let c0_88 : Index := 0#32
  let arg2 : BitVec 32 := BitVec.ofNat 32 (i 2).val
  let c1_i32_85 : BitVec 32 := 1#32
  let v119 : BitVec 32 := Scalar.subi arg2 c1_i32_85
  let c0_i32_33 : BitVec 32 := 0#32
  let v47 : BitVec 32 := Scalar.subi arg2 c0_i32_33
  let c1_i32 : BitVec 32 := 1#32
  let v49 : BitVec 32 := Scalar.divsi v47 c1_i32
  let v50 : BitVec 32 := Scalar.muli v49 c1_i32
  let v51 : BitVec 32 := Scalar.addi c0_i32_33 v50
  let c1_i32_35 : BitVec 32 := 1#32
  let arg9 : BitVec 32 := Scf.iv v51 c1_i32_35 k0_t2
  let v120 : BitVec 32 := Scalar.subi v119 arg9
  let c512_i32_86 : BitVec 32 := 512#32
  let v121 : BitVec 32 := Scalar.muli v120 c512_i32_86
  let v122 : BitVec 32 := v121
  let v123 : Index := Scalar.indexCast v122
  let c0_89 : Index := 0#32
  ![0, 0, v123.toNat, 0]
def k0_off6 (i : grid0.Coords) (k0_t2 : Fin (k0_t2_loop i).trips) : Fin 5 → Nat :=
  let c0_98 : Index := 0#32
  let c0_99 : Index := 0#32
  let arg2 : BitVec 32 := BitVec.ofNat 32 (i 2).val
  let c1_i32_85 : BitVec 32 := 1#32
  let v119 : BitVec 32 := Scalar.subi arg2 c1_i32_85
  let c0_i32_33 : BitVec 32 := 0#32
  let v47 : BitVec 32 := Scalar.subi arg2 c0_i32_33
  let c1_i32 : BitVec 32 := 1#32
  let v49 : BitVec 32 := Scalar.divsi v47 c1_i32
  let v50 : BitVec 32 := Scalar.muli v49 c1_i32
  let v51 : BitVec 32 := Scalar.addi c0_i32_33 v50
  let c1_i32_35 : BitVec 32 := 1#32
  let arg9 : BitVec 32 := Scf.iv v51 c1_i32_35 k0_t2
  let v120 : BitVec 32 := Scalar.subi v119 arg9
  let v142 : Index := Scalar.indexCast v120
  let c0_100 : Index := 0#32
  let c0_101 : Index := 0#32
  ![0, 0, v142.toNat, 0, 0]
def k0_mult4 (i : grid0.Coords) : BitVec 32 :=
  let arg2 : BitVec 32 := BitVec.ofNat 32 (i 2).val
  let c512_i32_47 : BitVec 32 := 512#32
  let v62 : BitVec 32 := Scalar.muli arg2 c512_i32_47
  v62
def k0_off7 (i : grid0.Coords) : Fin 4 → Nat :=
  let c0_48 : Index := 0#32
  let c1_49 : Index := 1#32
  let arg2 : BitVec 32 := BitVec.ofNat 32 (i 2).val
  let c512_i32_47 : BitVec 32 := 512#32
  let v62 : BitVec 32 := Scalar.muli arg2 c512_i32_47
  let v63 : BitVec 32 := v62
  let v64 : Index := Scalar.indexCast v63
  let c0_50 : Index := 0#32
  ![0, 1, v64.toNat, 0]
def k0_off8 (i : grid0.Coords) : Fin 5 → Nat :=
  let c0_60 : Index := 0#32
  let c1_61 : Index := 1#32
  let arg2 : BitVec 32 := BitVec.ofNat 32 (i 2).val
  let v85 : Index := Scalar.indexCast arg2
  let c0_62 : Index := 0#32
  let c0_63 : Index := 0#32
  ![0, 1, v85.toNat, 0, 0]
@[reducible] def k0_t3_loop (i : grid0.Coords) : Scf.Loop 32 :=
  let c0_i32_72 : BitVec 32 := 0#32
  let arg2 : BitVec 32 := BitVec.ofNat 32 (i 2).val
  let v96 : BitVec 32 := Scalar.subi arg2 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_74 : BitVec 32 := 1#32
  ⟨c0_i32_72, v100, c1_i32_74⟩
def k0_mult5 (i : grid0.Coords) (k0_t3 : Fin (k0_t3_loop i).trips) : BitVec 32 :=
  let arg2 : BitVec 32 := BitVec.ofNat 32 (i 2).val
  let c1_i32_85 : BitVec 32 := 1#32
  let v119 : BitVec 32 := Scalar.subi arg2 c1_i32_85
  let c0_i32_72 : BitVec 32 := 0#32
  let c1_i32_74 : BitVec 32 := 1#32
  let arg9 : BitVec 32 := Scf.iv c0_i32_72 c1_i32_74 k0_t3
  let v120 : BitVec 32 := Scalar.subi v119 arg9
  let c512_i32_86 : BitVec 32 := 512#32
  let v121 : BitVec 32 := Scalar.muli v120 c512_i32_86
  v121
def k0_off9 (i : grid0.Coords) (k0_t3 : Fin (k0_t3_loop i).trips) : Fin 4 → Nat :=
  let c0_87 : Index := 0#32
  let c1_88 : Index := 1#32
  let arg2 : BitVec 32 := BitVec.ofNat 32 (i 2).val
  let c1_i32_85 : BitVec 32 := 1#32
  let v119 : BitVec 32 := Scalar.subi arg2 c1_i32_85
  let c0_i32_72 : BitVec 32 := 0#32
  let c1_i32_74 : BitVec 32 := 1#32
  let arg9 : BitVec 32 := Scf.iv c0_i32_72 c1_i32_74 k0_t3
  let v120 : BitVec 32 := Scalar.subi v119 arg9
  let c512_i32_86 : BitVec 32 := 512#32
  let v121 : BitVec 32 := Scalar.muli v120 c512_i32_86
  let v122 : BitVec 32 := v121
  let v123 : Index := Scalar.indexCast v122
  let c0_89 : Index := 0#32
  ![0, 1, v123.toNat, 0]
def k0_off10 (i : grid0.Coords) (k0_t3 : Fin (k0_t3_loop i).trips) : Fin 5 → Nat :=
  let c0_98 : Index := 0#32
  let c1_99 : Index := 1#32
  let arg2 : BitVec 32 := BitVec.ofNat 32 (i 2).val
  let c1_i32_85 : BitVec 32 := 1#32
  let v119 : BitVec 32 := Scalar.subi arg2 c1_i32_85
  let c0_i32_72 : BitVec 32 := 0#32
  let c1_i32_74 : BitVec 32 := 1#32
  let arg9 : BitVec 32 := Scf.iv c0_i32_72 c1_i32_74 k0_t3
  let v120 : BitVec 32 := Scalar.subi v119 arg9
  let v142 : Index := Scalar.indexCast v120
  let c0_100 : Index := 0#32
  let c0_101 : Index := 0#32
  ![0, 1, v142.toNat, 0, 0]
@[reducible] def k0_t4_loop (i : grid0.Coords) : Scf.Loop 32 :=
  let c0_i32_72 : BitVec 32 := 0#32
  let arg2 : BitVec 32 := BitVec.ofNat 32 (i 2).val
  let v96 : BitVec 32 := Scalar.subi arg2 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let v97 : BitVec 32 := Scalar.addi c0_i32_72 v96
  let c1_i32_75 : BitVec 32 := 1#32
  ⟨v100, v97, c1_i32_75⟩
def k0_mult6 (i : grid0.Coords) (k0_t4 : Fin (k0_t4_loop i).trips) : BitVec 32 :=
  let arg2 : BitVec 32 := BitVec.ofNat 32 (i 2).val
  let c1_i32_85 : BitVec 32 := 1#32
  let v119 : BitVec 32 := Scalar.subi arg2 c1_i32_85
  let c0_i32_72 : BitVec 32 := 0#32
  let v96 : BitVec 32 := Scalar.subi arg2 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg9 : BitVec 32 := Scf.iv v100 c1_i32_75 k0_t4
  let v120 : BitVec 32 := Scalar.subi v119 arg9
  let c512_i32_86 : BitVec 32 := 512#32
  let v121 : BitVec 32 := Scalar.muli v120 c512_i32_86
  v121
def k0_off11 (i : grid0.Coords) (k0_t4 : Fin (k0_t4_loop i).trips) : Fin 4 → Nat :=
  let c0_87 : Index := 0#32
  let c1_88 : Index := 1#32
  let arg2 : BitVec 32 := BitVec.ofNat 32 (i 2).val
  let c1_i32_85 : BitVec 32 := 1#32
  let v119 : BitVec 32 := Scalar.subi arg2 c1_i32_85
  let c0_i32_72 : BitVec 32 := 0#32
  let v96 : BitVec 32 := Scalar.subi arg2 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg9 : BitVec 32 := Scf.iv v100 c1_i32_75 k0_t4
  let v120 : BitVec 32 := Scalar.subi v119 arg9
  let c512_i32_86 : BitVec 32 := 512#32
  let v121 : BitVec 32 := Scalar.muli v120 c512_i32_86
  let v122 : BitVec 32 := v121
  let v123 : Index := Scalar.indexCast v122
  let c0_89 : Index := 0#32
  ![0, 1, v123.toNat, 0]
def k0_off12 (i : grid0.Coords) (k0_t4 : Fin (k0_t4_loop i).trips) : Fin 5 → Nat :=
  let c0_98 : Index := 0#32
  let c1_99 : Index := 1#32
  let arg2 : BitVec 32 := BitVec.ofNat 32 (i 2).val
  let c1_i32_85 : BitVec 32 := 1#32
  let v119 : BitVec 32 := Scalar.subi arg2 c1_i32_85
  let c0_i32_72 : BitVec 32 := 0#32
  let v96 : BitVec 32 := Scalar.subi arg2 c0_i32_72
  let c1_i32_73 : BitVec 32 := 1#32
  let v98 : BitVec 32 := Scalar.divsi v96 c1_i32_73
  let v99 : BitVec 32 := Scalar.muli v98 c1_i32_73
  let v100 : BitVec 32 := Scalar.addi c0_i32_72 v99
  let c1_i32_75 : BitVec 32 := 1#32
  let arg9 : BitVec 32 := Scf.iv v100 c1_i32_75 k0_t4
  let v120 : BitVec 32 := Scalar.subi v119 arg9
  let v142 : Index := Scalar.indexCast v120
  let c0_100 : Index := 0#32
  let c0_101 : Index := 0#32
  ![0, 1, v142.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8x8192x128 : Shape := ⟨4, ![4, 8, 8192, 128]⟩
abbrev S4x8x16x128x512 : Shape := ⟨5, ![4, 8, 16, 128, 512]⟩
abbrev S4x8x16x64x512 : Shape := ⟨5, ![4, 8, 16, 64, 512]⟩
abbrev S4x8x16x512x64 : Shape := ⟨5, ![4, 8, 16, 512, 64]⟩
abbrev S4x8x8192x64 : Shape := ⟨4, ![4, 8, 8192, 64]⟩
abbrev S4x8x8192x8192 : Shape := ⟨4, ![4, 8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x8x8192 : Shape := ⟨3, ![4, 8, 8192]⟩
abbrev S4x8x8192x1 : Shape := ⟨4, ![4, 8, 8192, 1]⟩
abbrev S4x8192x8x64 : Shape := ⟨4, ![4, 8192, 8, 64]⟩
abbrev S4x8192x512 : Shape := ⟨3, ![4, 8192, 512]⟩

abbrev nBuf : Space → Nat
  | .hbm => 39
  | .vmem => 0
  | .smem => 0
  | _ => 0

abbrev bufTy : (tb : Table) → Fin (tcTables nBuf tb) → BufTy
  | .hbm, ⟨0, _⟩ => ⟨S4x8x8192x128, .bf16⟩
  | .hbm, ⟨1, _⟩ => ⟨S4x8x8192x128, .bf16⟩
  | .hbm, ⟨2, _⟩ => ⟨S4x8x16x128x512, .bf16⟩
  | .hbm, ⟨3, _⟩ => ⟨S4x8x8192x128, .f32⟩
  | .hbm, ⟨4, _⟩ => ⟨S4x8x8192x128, .f32⟩
  | .hbm, ⟨5, _⟩ => ⟨S4x8x16x128x512, .f32⟩
  | .hbm, ⟨6, _⟩ => ⟨S4x8x16x64x512, .f32⟩
  | .hbm, ⟨7, _⟩ => ⟨S4x8x16x512x64, .f32⟩
  | .hbm, ⟨8, _⟩ => ⟨S4x8x8192x64, .f32⟩
  | .hbm, ⟨9, _⟩ => ⟨S4x8x8192x8192, .f32⟩
  | .hbm, ⟨10, _⟩ => ⟨S8192, .i32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S4x8x8192x8192, .i1⟩
  | .hbm, ⟨19, _⟩ => ⟨S4x8x8192x8192, .f32⟩
  | .hbm, ⟨20, _⟩ => ⟨S4x8x8192x8192, .f32⟩
  | .hbm, ⟨21, _⟩ => ⟨S_, .f32⟩
  | .hbm, ⟨22, _⟩ => ⟨S4x8x8192, .f32⟩
  | .hbm, ⟨23, _⟩ => ⟨S_, .f32⟩
  | .hbm, ⟨24, _⟩ => ⟨S4x8x8192, .f32⟩
  | .hbm, ⟨25, _⟩ => ⟨S4x8x8192, .f32⟩
  | .hbm, ⟨26, _⟩ => ⟨S4x8x8192x1, .f32⟩
  | .hbm, ⟨27, _⟩ => ⟨S4x8x8192x8192, .f32⟩
  | .hbm, ⟨28, _⟩ => ⟨S4x8x8192x8192, .f32⟩
  | .hbm, ⟨29, _⟩ => ⟨S4x8x8192x8192, .f32⟩
  | .hbm, ⟨30, _⟩ => ⟨S_, .f32⟩
  | .hbm, ⟨31, _⟩ => ⟨S4x8x8192, .f32⟩
  | .hbm, ⟨32, _⟩ => ⟨S4x8x8192x1, .f32⟩
  | .hbm, ⟨33, _⟩ => ⟨S4x8x8192x8192, .f32⟩
  | .hbm, ⟨34, _⟩ => ⟨S4x8x8192x8192, .f32⟩
  | .hbm, ⟨35, _⟩ => ⟨S4x8x8192x64, .f32⟩
  | .hbm, ⟨36, _⟩ => ⟨S4x8192x8x64, .f32⟩
  | .hbm, ⟨37, _⟩ => ⟨S4x8192x512, .f32⟩
  | .hbm, ⟨38, _⟩ => ⟨S4x8192x512, .bf16⟩
  | _, _ => ⟨S4x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x2816, .f32⟩
  | .hbm, ⟨6, _⟩ => ⟨S1024x11x256, .f32⟩
  | .hbm, ⟨7, _⟩ => ⟨S11x1024x256, .f32⟩
  | .hbm, ⟨8, _⟩ => ⟨S11x1024x256, .bf16⟩
  | .hbm, ⟨9, _⟩ => ⟨S1024x2816, .f32⟩
  | .hbm, ⟨10, _⟩ => ⟨S1024x11x256, .f32⟩
  | .hbm, ⟨11, _⟩ => ⟨S11x1024x256, .f32⟩
  | .hbm, ⟨12, _⟩ => ⟨S11x1024x256, .bf16⟩
  | .hbm, ⟨13, _⟩ => ⟨S11x256x1024, .f32⟩
  | .hbm, ⟨14, _⟩ => ⟨S11x256x1024, .bf16⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S11x1024x256, .bf16⟩
  | .local _ .vmem, ⟨4, _⟩ => ⟨S11x1024x256, .bf16⟩
  | .local _ .vmem, ⟨5, _⟩ => ⟨S11x256x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S11x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== MixOut.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x512, .bf16⟩
  | .hbm, ⟨4, _⟩ => ⟨S1024x1024, .f32⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S512x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x512, .bf16⟩
  | .local _ .vmem, ⟨7, _⟩ => ⟨S512x512, .bf16⟩
  | .local _ .vmem, ⟨8, _⟩ => ⟨S256x1024, .bf16⟩
  | .local _ .vmem, ⟨9, _⟩ => ⟨S256x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutReferenceIdeal.lean ====
abbrev S32768x1024 : Shape := ⟨2, ![32768, 1024]⟩
abbrev S32768x256 : Shape := ⟨2, ![32768, 256]⟩
abbrev S32768x512 : Shape := ⟨2, ![32768, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x512, .bf16⟩
  | .hbm, ⟨4, _⟩ => ⟨S1024x1024, .f32⟩
  | .hbm, ⟨5, _⟩ => ⟨S32768x256, .f32⟩
  | .hbm, ⟨6, _⟩ => ⟨S32768x256, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== MixIn.lean ====
abbrev S4x8192x1024 : Shape := ⟨3, ![4, 8192, 1024]⟩
abbrev S1024 : Shape := ⟨1, ![1024]⟩
abbrev S1024x3336 : Shape := ⟨2, ![1024, 3336]⟩
abbrev S3x256 : Shape := ⟨2, ![3, 256]⟩
abbrev S64 : Shape := ⟨1, ![64]⟩
abbrev S8 : Shape := ⟨1, ![8]⟩
abbrev S512x1536 : Shape := ⟨2, ![512, 1536]⟩
abbrev S384x1024 : Shape := ⟨2, ![384, 1024]⟩
abbrev S1x1024 : Shape := ⟨2, ![1, 1024]⟩
abbrev S1024x768 : Shape := ⟨2, ![1024, 768]⟩
abbrev S_ : Shape := ⟨0, ![]⟩
abbrev S8x256 : Shape := ⟨2, ![8, 256]⟩
abbrev S1024x1024 : Shape := ⟨2, ![1024, 1024]⟩
abbrev S1024x512 : Shape := ⟨2, ![1024, 512]⟩
abbrev S1024x8x64 : Shape := ⟨3, ![1024, 8, 64]⟩
abbrev S1024x8x128 : Shape := ⟨3, ![1024, 8, 128]⟩
abbrev S1024x8 : Shape := ⟨2, ![1024, 8]⟩
abbrev S1024x128 : Shape := ⟨2, ![1024, 128]⟩
abbrev S128 : Shape := ⟨1, ![128]⟩
abbrev S1x128 : Shape := ⟨2, ![1, 128]⟩
abbrev S4x8192x256 : Shape := ⟨3, ![4, 8192, 256]⟩
abbrev S4x8x8192x128 : Shape := ⟨4, ![4, 8, 8192, 128]⟩
abbrev S4x8x16x128x512 : Shape := ⟨5, ![4, 8, 16, 128, 512]⟩
abbrev S1x512x1024 : Shape := ⟨3, ![1, 512, 1024]⟩
abbrev S1x512x256 : Shape := ⟨3, ![1, 512, 256]⟩
abbrev S1x8x512x128 : Shape := ⟨4, ![1, 8, 512, 128]⟩
abbrev S1x8x1x128x512 : Shape := ⟨5, ![1, 8, 1, 128, 512]⟩
abbrev S520x256 : Shape := ⟨2, ![520, 256]⟩
abbrev S512x1024 : Shape := ⟨2, ![512, 1024]⟩
abbrev S512 : Shape := ⟨1, ![512]⟩
abbrev S512x1 : Shape := ⟨2, ![512, 1]⟩
abbrev S512x768 : Shape := ⟨2, ![512, 768]⟩
abbrev S512x256 : Shape := ⟨2, ![512, 256]⟩
abbrev S1x256 : Shape := ⟨2, ![1, 256]⟩
abbrev S512x128 : Shape := ⟨2, ![512, 128]⟩
abbrev S1536x128 : Shape := ⟨2, ![1536, 128]⟩
abbrev S512x384 : Shape := ⟨2, ![512, 384]⟩
abbrev S1x1x512x128 : Shape := ⟨4, ![1, 1, 512, 128]⟩
abbrev S128x512 : Shape := ⟨2, ![128, 512]⟩
abbrev S1x1x1x128x512 : Shape := ⟨5, ![1, 1, 1, 128, 512]⟩

abbrev nBuf : Space → Nat
  | .hbm => 67
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3336, .f32⟩
  | .hbm, ⟨3, _⟩ => ⟨S3x256, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S512x1536, .bf16⟩
  | .hbm, ⟨8, _⟩ => ⟨S384x1024, .bf16⟩
  | .hbm, ⟨9, _⟩ => ⟨S384x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x768, .f32⟩
  | .hbm, ⟨14, _⟩ => ⟨S1024x768, .bf16⟩
  | .hbm, ⟨15, _⟩ => ⟨S_, .i32⟩
  | .hbm, ⟨16, _⟩ => ⟨S_, .f32⟩
  | .hbm, ⟨17, _⟩ => ⟨S8x256, .f32⟩
  | .hbm, ⟨18, _⟩ => ⟨S1024x1024, .f32⟩
  | .hbm, ⟨19, _⟩ => ⟨S1024x1024, .bf16⟩
  | .hbm, ⟨20, _⟩ => ⟨S1024x512, .f32⟩
  | .hbm, ⟨21, _⟩ => ⟨S1024x8x64, .f32⟩
  | .hbm, ⟨22, _⟩ => ⟨S_, .i32⟩
  | .hbm, ⟨23, _⟩ => ⟨S_, .f32⟩
  | .hbm, ⟨24, _⟩ => ⟨S1024x8x128, .f32⟩
  | .hbm, ⟨25, _⟩ => ⟨S1024x1024, .f32⟩
  | .hbm, ⟨26, _⟩ => ⟨S1024x1024, .bf16⟩
  | .hbm, ⟨27, _⟩ => ⟨S1024x512, .f32⟩
  | .hbm, ⟨28, _⟩ => ⟨S1024x8x64, .f32⟩
  | .hbm, ⟨29, _⟩ => ⟨S_, .i32⟩
  | .hbm, ⟨30, _⟩ => ⟨S_, .f32⟩
  | .hbm, ⟨31, _⟩ => ⟨S1024x8x128, .f32⟩
  | .hbm, ⟨32, _⟩ => ⟨S1024x1024, .f32⟩
  | .hbm, ⟨33, _⟩ => ⟨S1024x1024, .bf16⟩
  | .hbm, ⟨34, _⟩ => ⟨S1024x512, .f32⟩
  | .hbm, ⟨35, _⟩ => ⟨S1024x8x64, .f32⟩
  | .hbm, ⟨36, _⟩ => ⟨S_, .i32⟩
  | .hbm, ⟨37, _⟩ => ⟨S_, .f32⟩
  | .hbm, ⟨38, _⟩ => ⟨S1024x8x128, .f32⟩
  | .hbm, ⟨39, _⟩ => ⟨S1024x1024, .f32⟩
  | .hbm, ⟨40, _⟩ => ⟨S1024x1024, .f32⟩
  | .hbm, ⟨41, _⟩ => ⟨S1024x1024, .bf16⟩
  | .hbm, ⟨42, _⟩ => ⟨S1024x8, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x128, .bf16⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .i32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S_, .i32⟩
  | .hbm, ⟨59, _⟩ => ⟨S_, .f32⟩
  | .hbm, ⟨60, _⟩ => ⟨S128, .f32⟩
  | .hbm, ⟨61, _⟩ => ⟨S1x128, .f32⟩
  | .hbm, ⟨62, _⟩ => ⟨S4x8192x256, .bf16⟩
  | .hbm, ⟨63, _⟩ => ⟨S4x8192x1024, .f32⟩
  | .hbm, ⟨64, _⟩ => ⟨S4x8x8192x128, .bf16⟩
  | .hbm, ⟨65, _⟩ => ⟨S4x8x8192x128, .bf16⟩
  | .hbm, ⟨66, _⟩ => ⟨S4x8x16x128x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x768, .bf16⟩
  | .local _ .vmem, ⟨4, _⟩ => ⟨S8x256, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S512x1536, .bf16⟩
  | .local _ .vmem, ⟨14, _⟩ => ⟨S384x1024, .bf16⟩
  | .local _ .vmem, ⟨15, _⟩ => ⟨S384x1024, .bf16⟩
  | .local _ .vmem, ⟨16, _⟩ => ⟨S1x1024, .f32⟩
  | .local _ .vmem, ⟨17, _⟩ => ⟨S1x1024, .f32⟩
  | .local _ .vmem, ⟨18, _⟩ => ⟨S1x512x256, .bf16⟩
  | .local _ .vmem, ⟨19, _⟩ => ⟨S1x512x256, .bf16⟩
  | .local _ .vmem, ⟨20, _⟩ => ⟨S1x512x1024, .f32⟩
  | .local _ .vmem, ⟨21, _⟩ => ⟨S1x512x1024, .f32⟩
  | .local _ .vmem, ⟨22, _⟩ => ⟨S1x8x512x128, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x8x512x128, .bf16⟩
  | .local _ .vmem, ⟨26, _⟩ => ⟨S1x8x1x128x512, .bf16⟩
  | .local _ .vmem, ⟨27, _⟩ => ⟨S1x8x1x128x512, .bf16⟩
  | .local _ .vmem, ⟨28, _⟩ => ⟨S520x256, .f32⟩
  | .local _ .vmem, ⟨29, _⟩ => ⟨S1x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_call0_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_call1_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_call2_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_2 : Ref sig .tc := ⟨.hbm, 36, rfl⟩
abbrev main_call3_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_call4_v0 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_call5_v0 : Ref sig .tc := ⟨.hbm, 48, rfl⟩
abbrev main_v25 : Ref sig .tc := ⟨.hbm, 49, rfl⟩
abbrev main_v26 : Ref sig .tc := ⟨.hbm, 50, rfl⟩
abbrev main_cst : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_call6_v0 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_call7_v0 : Ref sig .tc := ⟨.hbm, 59, rfl⟩
abbrev main_v31 : Ref sig .tc := ⟨.hbm, 60, rfl⟩
abbrev main_v32 : Ref sig .tc := ⟨.hbm, 61, rfl⟩
abbrev main_v33_0 : Ref sig .tc := ⟨.hbm, 62, rfl⟩
abbrev main_v33_1 : Ref sig .tc := ⟨.hbm, 63, rfl⟩
abbrev main_v33_2 : Ref sig .tc := ⟨.hbm, 64, rfl⟩
abbrev main_v33_3 : Ref sig .tc := ⟨.hbm, 65, rfl⟩
abbrev main_v33_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x1x128x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== MixInReferenceIdeal.lean ====
abbrev S4x8192x1024 : Shape := ⟨3, ![4, 8192, 1024]⟩
abbrev S1024 : Shape := ⟨1, ![1024]⟩
abbrev S1024x3336 : Shape := ⟨2, ![1024, 3336]⟩
abbrev S3x256 : Shape := ⟨2, ![3, 256]⟩
abbrev S64 : Shape := ⟨1, ![64]⟩
abbrev S8 : Shape := ⟨1, ![8]⟩
abbrev S512x1536 : Shape := ⟨2, ![512, 1536]⟩
abbrev S384x1024 : Shape := ⟨2, ![384, 1024]⟩
abbrev S1x1024 : Shape := ⟨2, ![1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3336 : Shape := ⟨3, ![4, 8192, 3336]⟩
abbrev S4x8192x256 : Shape := ⟨3, ![4, 8192, 256]⟩
abbrev S4x8194x256 : Shape := ⟨3, ![4, 8194, 256]⟩
abbrev S1x256 : Shape := ⟨2, ![1, 256]⟩
abbrev S256 : Shape := ⟨1, ![256]⟩
abbrev S1x1x256 : Shape := ⟨3, ![1, 1, 256]⟩
abbrev S4x8192x512 : Shape := ⟨3, ![4, 8192, 512]⟩
abbrev S4x16x512x8x64 : Shape := ⟨5, ![4, 16, 512, 8, 64]⟩
abbrev S4x8x16x64x512 : Shape := ⟨5, ![4, 8, 16, 64, 512]⟩
abbrev S4x8x16x1x512 : Shape := ⟨5, ![4, 8, 16, 1, 512]⟩
abbrev S4x8x16x63x512 : Shape := ⟨5, ![4, 8, 16, 63, 512]⟩
abbrev S4x8x16x128x512 : Shape := ⟨5, ![4, 8, 16, 128, 512]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3336, .f32⟩
  | .hbm, ⟨3, _⟩ => ⟨S3x256, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S512x1536, .bf16⟩
  | .hbm, ⟨8, _⟩ => ⟨S384x1024, .bf16⟩
  | .hbm, ⟨9, _⟩ => ⟨S384x1024, .bf16⟩
  | .hbm, ⟨10, _⟩ => ⟨S1x1024, .f32⟩
  | .hbm, ⟨11, _⟩ => ⟨S1x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x3336, .f32⟩
  | .hbm, ⟨29, _⟩ => ⟨S4x8192x256, .f32⟩
  | .hbm, ⟨30, _⟩ => ⟨S4x8192x256, .f32⟩
  | .hbm, ⟨31, _⟩ => ⟨S4x8192x256, .f32⟩
  | .hbm, ⟨32, _⟩ => ⟨S4x8192x1024, .f32⟩
  | .hbm, ⟨33, _⟩ => ⟨S4x8192x256, .f32⟩
  | .hbm, ⟨34, _⟩ => ⟨S_, .i32⟩
  | .hbm, ⟨35, _⟩ => ⟨S_, .f32⟩
  | .hbm, ⟨36, _⟩ => ⟨S4x8194x256, .f32⟩
  | .hbm, ⟨37, _⟩ => ⟨S1x256, .f32⟩
  | .hbm, ⟨38, _⟩ => ⟨S256, .f32⟩
  | .hbm, ⟨39, _⟩ => ⟨S4x8192x256, .f32⟩
  | .hbm, ⟨40, _⟩ => ⟨S1x1x256, .f32⟩
  | .hbm, ⟨41, _⟩ => ⟨S4x8192x256, .f32⟩
  | .hbm, ⟨42, _⟩ => ⟨S4x8192x256, .f32⟩
  | .hbm, ⟨43, _⟩ => ⟨S1x256, .f32⟩
  | .hbm, ⟨44, _⟩ => ⟨S256, .f32⟩
  | .hbm, ⟨45, _⟩ => ⟨S4x8192x256, .f32⟩
  | .hbm, ⟨46, _⟩ => ⟨S1x1x256, .f32⟩
  | .hbm, ⟨47, _⟩ => ⟨S4x8192x256, .f32⟩
  | .hbm, ⟨48, _⟩ => ⟨S4x8192x256, .f32⟩
  | .hbm, ⟨49, _⟩ => ⟨S4x8192x256, .f32⟩
  | .hbm, ⟨50, _⟩ => ⟨S1x256, .f32⟩
  | .hbm, ⟨51, _⟩ => ⟨S256, .f32⟩
  | .hbm, ⟨52, _⟩ => ⟨S4x8192x256, .f32⟩
  | .hbm, ⟨53, _⟩ => ⟨S1x1x256, .f32⟩
  | .hbm, ⟨54, _⟩ => ⟨S4x8192x256, .f32⟩
  | .hbm, ⟨55, _⟩ => ⟨S4x8192x256, .f32⟩
  | .hbm, ⟨56, _⟩ => ⟨S4x8192x256, .f32⟩
  | .hbm, ⟨57, _⟩ => ⟨S4x8192x256, .f32⟩
  | .hbm, ⟨58, _⟩ => ⟨S4x8192x512, .f32⟩
  | .hbm, ⟨59, _⟩ => ⟨S4x16x512x8x64, .f32⟩
  | .hbm, ⟨60, _⟩ => ⟨S4x8x16x64x512, .f32⟩
  | .hbm, ⟨61, _⟩ => ⟨S_, .f32⟩
  | .hbm, ⟨62, _⟩ => ⟨S4x8x16x1x512, .f32⟩
  | .hbm, ⟨63, _⟩ => ⟨S_, .f32⟩
  | .hbm, ⟨64, _⟩ => ⟨S4x8x16x63x512, .f32⟩
  | .hbm, ⟨65, _⟩ => ⟨S4x8x16x128x512, .f32⟩
  | .hbm, ⟨66, _⟩ => ⟨S4x8192x256, .bf16⟩
  | .hbm, ⟨67, _⟩ => ⟨S4x8x16x128x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_2 : Ref sig .tc := ⟨.hbm, 61, rfl⟩
abbrev main_v44 : Ref sig .tc := ⟨.hbm, 62, rfl⟩
abbrev main_cst_3 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Proof.References.lean ====
/- The four reference programs run on the host alone and declare no semaphore: from the generated runs, their arguments
   end unchanged and every counter is zero. -/
module

public import proofs.«01_k».proof.Proof.Gen.ReferenceIdeal.Run
public import proofs.«01_k».proof.Proof.Gen.FfnReferenceIdeal.Run
public import proofs.«01_k».proof.Proof.Gen.MixOutReferenceIdeal.Run
public import proofs.«01_k».proof.Proof.Gen.MixInReferenceIdeal.Run
public import Idealize.ShloMosaic.Lib.Quiescent

@[expose] public section

noncomputable section

namespace Cert.References

open Idealize.ShloMosaic Idealize.SL.Sem

variable {F : FTy → Type} [FloatOps F]

/-- The attention's reference: arguments unchanged, counters zero. -/
theorem fox (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F)))
      ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, sem_eq_zero_of_no_sems (by decide) r.2⟩)
    (Cert.ReferenceIdeal.Value.run m ρ)

/-- The feed-forward step's reference: arguments unchanged, counters zero. -/
theorem ffn (m : (ℓ : Loc Cert.FfnReferenceIdeal.nD Cert.FfnReferenceIdeal.τ Cert.FfnReferenceIdeal.sig) → Buf (Elt F) ℓ)
    (ρ : Dev Cert.FfnReferenceIdeal.nD → PrngReg) :
    θ_run Cert.FfnReferenceIdeal.defs (onTc (τ := Cert.FfnReferenceIdeal.τ) (Cert.FfnReferenceIdeal.main (F := F)))
      ⟨m, fun _ => 0, ρ⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0) :=
  (θ_run Cert.FfnReferenceIdeal.defs _ _).mono
    (fun r h => ⟨fun c => (h c).2, sem_eq_zero_of_no_sems (by decide) r.2⟩)
    (Cert.FfnReferenceIdeal.Value.run m ρ)

/-- The output projection's reference: arguments unchanged, counters zero. -/
theorem mixOut (m : (ℓ : Loc Cert.MixOutReferenceIdeal.nD Cert.MixOutReferenceIdeal.τ Cert.MixOutReferenceIdeal.sig) → Buf (Elt F) ℓ)
    (ρ : Dev Cert.MixOutReferenceIdeal.nD → PrngReg) :
    θ_run Cert.MixOutReferenceIdeal.defs (onTc (τ := Cert.MixOutReferenceIdeal.τ) (Cert.MixOutReferenceIdeal.main (F := F)))
      ⟨m, fun _ => 0, ρ⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0) :=
  (θ_run Cert.MixOutReferenceIdeal.defs _ _).mono
    (fun r h => ⟨fun c => (h c).2, sem_eq_zero_of_no_sems (by decide) r.2⟩)
    (Cert.MixOutReferenceIdeal.Value.run m ρ)

/-- The input mixer's reference: arguments unchanged, counters zero. -/
theorem mixIn (m : (ℓ : Loc Cert.MixInReferenceIdeal.nD Cert.MixInReferenceIdeal.τ Cert.MixInReferenceIdeal.sig) → Buf (Elt F) ℓ)
    (ρ : Dev Cert.MixInReferenceIdeal.nD → PrngReg) :
    θ_run Cert.MixInReferenceIdeal.defs (onTc (τ := Cert.MixInReferenceIdeal.τ) (Cert.MixInReferenceIdeal.main (F := F)))
      ⟨m, fun _ => 0, ρ⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8)
      ∧ r.2.mem ((c.tc : Thread Cert.MixInReferenceIdeal.nD Cert.MixInReferenceIdeal.τ).loc Cert.MixInReferenceIdeal.main_arg9) = m ((c.tc : Thread Cert.MixInReferenceIdeal.nD Cert.MixInReferenceIdeal.τ).loc Cert.MixInReferenceIdeal.main_arg9)
      ∧ r.2.mem ((c.tc : Thread Cert.MixInReferenceIdeal.nD Cert.MixInReferenceIdeal.τ).loc Cert.MixInReferenceIdeal.main_arg10) = m ((c.tc : Thread Cert.MixInReferenceIdeal.nD Cert.MixInReferenceIdeal.τ).loc Cert.MixInReferenceIdeal.main_arg10)
      ∧ r.2.mem ((c.tc : Thread Cert.MixInReferenceIdeal.nD Cert.MixInReferenceIdeal.τ).loc Cert.MixInReferenceIdeal.main_arg11) = m ((c.tc : Thread Cert.MixInReferenceIdeal.nD Cert.MixInReferenceIdeal.τ).loc Cert.MixInReferenceIdeal.main_arg11))
      ∧ r.2.sem = fun _ => 0) :=
  (θ_run Cert.MixInReferenceIdeal.defs _ _).mono
    (fun r h => ⟨fun c => (h c).2.2.2, sem_eq_zero_of_no_sems (by decide) r.2⟩)
    (Cert.MixInReferenceIdeal.Value.run m ρ)

end Cert.References

end
-- ==== Proof.KernelFrame.lean ====
/-
  The attention kernel at machine formats: it runs to the end, its arguments end unchanged and every counter ends at
  zero.  Nothing is said here of what it writes, so its output block and its two scratch buffers are held at some
  contents throughout.
-/
module

public import proofs.«01_k».proof.Proof.Gen.Kernel.Frame
public import proofs.«01_k».proof.Proof.Gen.Kernel.Skeleton
public import Idealize.ShloMosaic.Lib.LoopRemainder
public import Idealize.ShloMosaic.Lib.WholeRead
public import Idealize.ShloMosaic.Lib.Claim

@[expose] public section

set_option maxRecDepth 16384

noncomputable section

namespace Cert.Kernel.Fox

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Through both loops over earlier blocks: the keys and values unchanged, the scratch buffers at some contents. -/
def inv (c : Dev nD) (arg4 : Memref sig .tc .vmem S1x2x8192x128 .bf16) (harg4 : arg4.IsWhole)
    (arg5 : Memref sig .tc .vmem S1x2x16x128x512 .bf16) (harg5 : arg5.IsWhole)
    (arg7 : Memref sig .tc .vmem S2x1x512 .f32) (arg8 : Memref sig .tc .vmem S2x128x512 .f32)
    (x1 : Vec F S1x2x8192x128 .bf16) (x2 : Vec F S1x2x16x128x512 .bf16) (_ : ℕ) (_ : Unit) : sProp 𝕄 :=
  iprop((arg4.view.loc (c : Thread nD τ) ↦[arg4.view.set]{fullShare} harg4.unread x1)
    ∗ (arg5.view.loc (c : Thread nD τ) ↦[arg5.view.set]{fullShare} harg5.unread x2)
    ∗ (∃ f, (arg7.view.loc (c : Thread nD τ) ↦[arg7.view.set]{fullShare} f))
    ∗ (∃ f, (arg8.view.loc (c : Thread nD τ) ↦[arg8.view.set]{fullShare} f)))

set_option maxHeartbeats 4000000 in
/-- The body at one grid point. -/
theorem body (c : Dev nD) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x16x128x512 .bf16) (harg5 : arg5.IsWhole) (arg6 : Memref sig .tc .vmem S1x512x128 .bf16) (harg6 : arg6.IsWhole) (arg7 : Memref sig .tc .vmem S2x1x512 .f32) (harg7 : arg7.IsWhole) (arg8 : Memref sig .tc .vmem S2x128x512 .f32) (harg8 : arg8.IsWhole)
    (x0 : Vec F S1x2x512x128 .bf16) (x1 : Vec F S1x2x8192x128 .bf16) (x2 : Vec F S1x2x16x128x512 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none c none) E (cc0_fox i arg3 harg3 arg4 harg4 arg5 harg5 arg6 harg6 arg7 harg7 arg8 harg8) K := by
  simp only [cc0_fox_eq_skeleton]; unfold cc0_fox_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg3.eq_unread hf0; obtain rfl := harg4.eq_unread hf1; obtain rfl := harg5.eq_unread hf2
  sl_exec
  sl_for (inv c arg4 harg4 arg5 harg5 arg7 arg8 x1 x2) $$ [H1 H2 H4 H5]
  case region =>
    intro k _
    unfold inv
    iintro ⟨H1, H2, ⟨%f7, H7⟩, ⟨%f8, H8⟩⟩
    sl_exec
    sl_step
    isplitl [H1]; · iexact H1
    isplitl [H2]; · iexact H2
    isplitl [H7]
    · iexists _; iexact H7
    iexists _; iexact H8
  · unfold inv
    isplitl [H1]; · iexact H1
    isplitl [H2]; · iexact H2
    isplitl [H4]
    · iexists _; iexact H4
    iexists _; iexact H5
  iintro %acc HI
  unfold inv
  icases HI with ⟨H1, H2, ⟨%g7, H4⟩, ⟨%g8, H5⟩⟩
  sl_exec
  sl_for (inv c arg4 harg4 arg5 harg5 arg7 arg8 x1 x2) $$ [H1 H2 H4 H5]
  case region =>
    intro k _
    unfold inv
    iintro ⟨H1, H2, ⟨%f7, H7⟩, ⟨%f8, H8⟩⟩
    sl_exec
    sl_step
    isplitl [H1]; · iexact H1
    isplitl [H2]; · iexact H2
    isplitl [H7]
    · iexists _; iexact H7
    iexists _; iexact H8
  · unfold inv
    isplitl [H1]; · iexact H1
    isplitl [H2]; · iexact H2
    isplitl [H4]
    · iexists _; iexact H4
    iexists _; iexact H5
  iintro %acc HI
  unfold inv
  icases HI with ⟨H1, H2, ⟨%k7, H4⟩, ⟨%k8, H5⟩⟩
  sl_exec
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _, _; isplitr
    swap
    · iexact H3
    ipureintro; rfl
  isplitl [H4]
  · iexists _, _; isplitr
    swap
    · iexact H4
    ipureintro; rfl
  iexists _, _; isplitr
  swap
  · iexact H5
  ipureintro; rfl

variable (m : (ℓ : Loc nD τ sig) → Buf (Elt F) ℓ) (ρ : Dev nD → PrngReg)

/-- The memrefs the body is given at a point. -/
abbrev stage0 (t : Fin cfg0.N) : Memref sig .tc .vmem S1x2x512x128 .bf16 := win0_0.stage (cfg0.slots t 0)
abbrev stage1 (t : Fin cfg0.N) : Memref sig .tc .vmem S1x2x8192x128 .bf16 := win0_1.stage (cfg0.slots t 1)
abbrev stage2 (t : Fin cfg0.N) : Memref sig .tc .vmem S1x2x16x128x512 .bf16 := win0_2.stage (cfg0.slots t 2)
abbrev stage3 (t : Fin cfg0.N) : Memref sig .tc .vmem S1x512x128 .bf16 := win0_3.stage (cfg0.slots t 3)
abbrev scratchM : Memref sig .tc .vmem S2x1x512 .f32 := Memref.whole cc0_scratch0
abbrev scratchA : Memref sig .tc .vmem S2x128x512 .f32 := Memref.whole cc0_scratch1

/-- What a point keeps between its runs: the two scratch buffers, at some contents. -/
theorem kept_eq (c : Dev nD) :
    (Pipeline.ΦA spec0 c : sProp 𝕄)
      = iprop(iprop((∃ d, owns (c : Thread nD τ) scratchM fullShare d) ∗ (∃ d, owns (c : Thread nD τ) scratchA fullShare d))
          ∗ (∃ r, prngReg c r)) := by
  unfold Pipeline.ΦA; rw [scopedRest0_eq]; simp only [scratchM, scratchA, owns_whole]; try rfl

/-- The windows: the inputs at their blocks; the output's entry is not read, since the run forgets that window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ _ := Pipeline.ΦA spec0 c
  q _ := fullShare
  owed _ := 0

/-- The output's window is the forgotten one. -/
def forgotten : Fin cfg0.W → Bool := fun w => w.val == 3

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body at a point, between what it is given and what it leaves. -/
theorem point (c : Dev nD) (t : Fin cfg0.N) :
    iprop((dats m 0 c).Φ t.castSucc ∗ (dats m 0 c).owesAt () t.castSucc
      ∗ (∃ d, owns (c : Thread nD τ) (stage0 t) fullShare ((dats m 0 c).before 0 t d))
      ∗ (∃ d, owns (c : Thread nD τ) (stage1 t) fullShare ((dats m 0 c).before 1 t d))
      ∗ (∃ d, owns (c : Thread nD τ) (stage2 t) fullShare ((dats m 0 c).before 2 t d))
      ∗ (∃ d, owns (c : Thread nD τ) (stage3 t) fullShare d))
    ⊢ wp Idealize.ShloMosaic.frame (wpE (defs₀ (F := F)) Variants.none c none) Set.univ (bodyAt0 t) (fun _ =>
      iprop((dats m 0 c).Φ t.succ ∗ (dats m 0 c).owesAt () t.succ
      ∗ owns (c : Thread nD τ) (stage0 t) fullShare ((dats m 0 c).after 0 t)
      ∗ owns (c : Thread nD τ) (stage1 t) fullShare ((dats m 0 c).after 1 t)
      ∗ owns (c : Thread nD τ) (stage2 t) fullShare ((dats m 0 c).after 2 t)
      ∗ (∃ d, owns (c : Thread nD τ) (stage3 t) fullShare d))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, kept_eq]
  iintro ⟨⟨⟨HM, HA⟩, Hg⟩, Ho, ⟨%d0, H0⟩, ⟨%d1, H1⟩, ⟨%d2, H2⟩, H3⟩
  iapply (body c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [HM]; · iexact HM
  isplitl [HA]; · iexact HA
  iintro ⟨H0, H1, H2, H3, HM, HA⟩
  isplitl [HM HA Hg]
  · isplitl [HM HA]
    · isplitl [HM]
      · iexact HM
      iexact HA
    iexact Hg
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) :
    BodyObligationLoose (dats (F := F) m 0 c) (defs₀ (F := F)) Variants.none () Set.univ forgotten := fun t => by
  rw [bigSep_W0, bigSep_W0, row]
  exact triple_restated (point m c t) rfl .rfl fun _ => .rfl

set_option backward.isDefEq.respectTransparency.types false in
/-- The run of the whole program. -/
theorem run : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget cfgs (dats m) (0 : Fin 1) launch0 defs₀ Variants.none forgotten m ρ main
    (hbody := obligation m) (hshare := fun c => (dats m 0 c).share_full fun _ => rfl)
    (howed := fun _ _ => rfl) (V := V m) (hmain := hmain m Variants.none) (hA := A_eq m) (hΦ := fun _ _ => rfl)
    (Q' := _) (hQ' := fun _ h => h)

/-- An argument's array ends as it was launched. -/
theorem kept (c : Dev nD) (w : Fin cfg0.W) (h : forgotten w = false) (hin : (cfg0.spec w).isOut = false)
    {X : Buf (Elt F) ((cfg0.win w).arr.view.loc (c.tc : Thread nD τ))}
    (hX : ((dats m 0 c).toRForget forgotten).ArrAt w cfg0.N X) : X = V m c (Pipeline.arrRef spec0 w) :=
  ((Pipeline.Dat.toRForget_arrAt_iff _ h _ _).mp hX).trans (((dats m 0 c).arrAt_in w hin _).trans (A_eq m c w))

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨kept m c 0 rfl rfl ((h.1 c).1 0), kept m c 1 rfl rfl ((h.1 c).1 1),
    kept m c 2 rfl rfl ((h.1 c).1 2)⟩, h.2⟩) (run m ρ)

end Cert.Kernel.Fox

end
-- ==== Proof.Fox.State.lean ====
/-
  What the attention kernel computes at one grid point, as plain functions of the three blocks it is given.

  A grid point has two heads and one block of 512 queries.  For each head the kernel keeps a row of running maxima and
  a table of running sums.  It starts both from the diagonal block of keys, then goes over the earlier blocks of keys,
  the nearest first.  `headZero` and `headOne` are those two quantities after so many blocks, and `result` is the block
  of the output that the point writes.
-/
module

public import proofs.«01_k».proof.Proof.Gen.KernelIdeal.Skeleton

@[expose] public section

noncomputable section

namespace Cert.KernelIdeal.Fox

open Cert.KernelIdeal Cert.KernelIdeal.Gen Idealize.ShloMosaic

variable {F : FTy → Type} [FloatOps F] [Named F]

/-- The part of a block that a load at the given offsets reads. -/
def part (s : Shape) {e : EltTy} (off size : Fin s.rank → ℕ) (h : ∀ a, off a + size a ≤ s.size a) (x : Vec F s e) :
    (Rect.unit (s := s) off size h).shape.Idx → Elt F e :=
  fun y => x ((Rect.unit (s := s) off size h).toLoadRect.idx y)

section

variable (i : grid0.Coords) (x0 : Vec F S1x2x512x128 .bf16) (x1 : Vec F S1x2x8192x128 .bf16)
  (x2 : Vec F S1x2x16x128x512 .bf16)

/-- The queries of the first head. -/
def queryZero : Vec F S1x1x512x128 .bf16 :=
  part S1x2x512x128 ![0, 0, 0, 0] S1x1x512x128.size inb_S1x2x512x128_S1x1x512x128_0_0_0_0 x0
/-- The queries of the second head. -/
def queryOne : Vec F S1x1x512x128 .bf16 :=
  part S1x2x512x128 ![0, 1, 0, 0] S1x1x512x128.size inb_S1x2x512x128_S1x1x512x128_0_1_0_0 x0

/-- The first head after its diagonal block. -/
def diagZero : Vec F S1x1x512 .f32 × Vec F S1x128x512 .f32 :=
  let q := queryZero x0
  let k : Vec F S1x1x512x128 .bf16 := part S1x2x8192x128 (k0_off1 i) S1x1x512x128.size (k0_off1_inb i) x1
  let v : Vec F S1x1x1x128x512 .bf16 := part S1x2x16x128x512 (k0_off2 i) S1x1x1x128x512.size (k0_off2_inb i) x2
  (k0_pay32 (k0_pay29 q k k0_pay25),
    k0_pay31 (k0_pay28 k0_pay25) (k0_pay29 q k k0_pay25) (k0_pay30 q k k0_pay25) k0_pay26 v)

/-- One earlier block of keys, for the first head. -/
def nextZero (t : Fin (k0_t1_loop i).trips) (s : Vec F S1x1x512 .f32 × Vec F S1x128x512 .f32) :
    Vec F S1x1x512 .f32 × Vec F S1x128x512 .f32 :=
  let q := k0_pay24 (queryZero x0)
  let k : Vec F S1x1x512x128 .bf16 := part S1x2x8192x128 (k0_off3 i t) S1x1x512x128.size (k0_off3_inb i t) x1
  let v : Vec F S1x1x1x128x512 .bf16 := part S1x2x16x128x512 (k0_off4 i t) S1x1x1x128x512.size (k0_off4_inb i t) x2
  (k0_pay7 q k s.1, k0_pay6 q k s.1 s.2 v)

/-- The first head after its diagonal block and the given number of earlier blocks. -/
def headZero : ℕ → Vec F S1x1x512 .f32 × Vec F S1x128x512 .f32
  | 0 => diagZero i x0 x1 x2
  | n + 1 => if h : n < (k0_t1_loop i).trips then nextZero i x0 x1 x2 ⟨n, h⟩ (headZero n) else headZero n

/-- The second head after its diagonal block. -/
def diagOne : Vec F S1x1x512 .f32 × Vec F S1x128x512 .f32 :=
  let q := k0_pay33 (queryOne x0)
  let k : Vec F S1x1x512x128 .bf16 := part S1x2x8192x128 (k0_off7 i) S1x1x512x128.size (k0_off7_inb i) x1
  let v : Vec F S1x1x1x128x512 .bf16 := part S1x2x16x128x512 (k0_off8 i) S1x1x1x128x512.size (k0_off8_inb i) x2
  (k0_pay1 (k0_pay39 k0_pay23 q k k0_pay34), k0_pay40 k0_pay23 q k k0_pay34 (k0_pay36 k0_pay35) v)

/-- One earlier block of keys, for the second head. -/
def nextOne (t : Fin (k0_t3_loop i).trips) (s : Vec F S1x1x512 .f32 × Vec F S1x128x512 .f32) :
    Vec F S1x1x512 .f32 × Vec F S1x128x512 .f32 :=
  let q := k0_pay33 (queryOne x0)
  let k : Vec F S1x1x512x128 .bf16 := part S1x2x8192x128 (k0_off9 i t) S1x1x512x128.size (k0_off9_inb i t) x1
  let v : Vec F S1x1x1x128x512 .bf16 := part S1x2x16x128x512 (k0_off10 i t) S1x1x1x128x512.size (k0_off10_inb i t) x2
  (k0_pay17 q k s.1, k0_pay16 q k s.1 s.2 v)

/-- The second head after its diagonal block and the given number of earlier blocks. -/
def headOne : ℕ → Vec F S1x1x512 .f32 × Vec F S1x128x512 .f32
  | 0 => diagOne i x0 x1 x2
  | n + 1 => if h : n < (k0_t3_loop i).trips then nextOne i x0 x1 x2 ⟨n, h⟩ (headOne n) else headOne n

/-- The block of the output that the point writes. -/
def result : Vec F S1x512x128 .bf16 :=
  k0_pay2 (headZero i x0 x1 x2 (k0_t1_loop i).trips).2 (headOne i x0 x1 x2 (k0_t3_loop i).trips).2

theorem headZero_succ (t : Fin (k0_t1_loop i).trips) :
    headZero i x0 x1 x2 (t.val + 1) = nextZero i x0 x1 x2 t (headZero i x0 x1 x2 t.val) := by
  rw [headZero, dif_pos t.isLt]

theorem headOne_succ (t : Fin (k0_t3_loop i).trips) :
    headOne i x0 x1 x2 (t.val + 1) = nextOne i x0 x1 x2 t (headOne i x0 x1 x2 t.val) := by
  rw [headOne, dif_pos t.isLt]

end

end Cert.KernelIdeal.Fox

end
-- ==== Proof.Fox.Body.lean ====
/-
  The attention kernel's body at one grid point: run on the three blocks it is given, it leaves `Fox.result` of them in
  its output block, whatever its two scratch buffers held before.
-/
module

public import proofs.«01_k».proof.Proof.Fox.State
public import proofs.«01_k».proof.Proof.Gen.KernelIdeal.Frame
public import Idealize.ShloMosaic.Lib.LoopRemainder
public import Idealize.ShloMosaic.Lib.WholeRead
public import Idealize.ShloMosaic.Lib.WritesUnit
public import Idealize.ShloMosaic.Lib.Pipeline.FrameBody

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A box read back just after it was stored. -/
theorem readAt_stored {κ : Kind} {sp : Space} {s : Shape} {e : EltTy} (v : View sig κ sp s e) (f : v.ty.Contents (Elt F))
    (off size : Fin s.rank → ℕ) (h : ∀ a, off a + size a ≤ s.size a) (w : (Rect.unit (s := s) off size h).shape.Idx → Elt F e)
    (L : List (View.Piece (Elt F) s e)) :
    v.readAt (Elt F) (Rect.unit (s := s) off size h).toLoadRect (v.writes (Elt F) f (⟨Rect.unit off size h, w⟩ :: L)) = w := by
  funext y
  exact View.read_writes_cons_unit_of_mem v f h w L _ y rfl fun a => by
    show off a + 1 * (y a).val = off a + (y a).val
    omega

/-- A box read back after a store into a box that differs from it along the first axis. -/
theorem readAt_apart {κ : Kind} {sp : Space} {s : Shape} {e : EltTy} (v : View sig κ sp s e) (f : v.ty.Contents (Elt F))
    (off off' size : Fin s.rank → ℕ) (h : ∀ a, off a + size a ≤ s.size a) (h' : ∀ a, off' a + size a ≤ s.size a)
    (w : (Rect.unit (s := s) off' size h').shape.Idx → Elt F e) (L : List (View.Piece (Elt F) s e)) (a : Fin s.rank)
    (ha : off a + size a ≤ off' a ∨ off' a + size a ≤ off a) :
    v.readAt (Elt F) (Rect.unit (s := s) off size h).toLoadRect (v.writes (Elt F) f (⟨Rect.unit off' size h', w⟩ :: L))
      = v.readAt (Elt F) (Rect.unit (s := s) off size h).toLoadRect (v.writes (Elt F) f L) := by
  funext y
  refine View.read_writes_cons_unit_of_not_mem v f h' w L _ rfl a ?_
  have hy : (y a).val < size a := (y a).isLt
  show off a + 1 * (y a).val < off' a ∨ off' a + size a ≤ off a + 1 * (y a).val
  omega

/-- A buffer read back after a store of the whole of it. -/
theorem read_stored_all {κ : Kind} {sp : Space} {s : Shape} {e : EltTy} (v : View sig κ sp s e)
    (f : v.ty.Contents (Elt F)) (off : Fin s.rank → ℕ) (h : ∀ a, off a + s.size a ≤ s.size a)
    (w : s.Idx → Elt F e) (L : List (View.Piece (Elt F) s e)) :
    v.read (Elt F) (v.writes (Elt F) f (⟨Rect.unit off s.size h, w⟩ :: L)) = w := by
  funext y
  exact View.read_writes_cons_unit_of_mem v f h w L y y rfl fun a => by have := h a; omega

/-- A load from a block held at known contents. -/
theorem readAt_block {κ : Kind} {sp : Space} {s : Shape} {e : EltTy} {r : Memref sig κ sp s e} (hr : r.IsWhole)
    (x : Vec F s e) (off size : Fin s.rank → ℕ) (h : ∀ a, off a + size a ≤ s.size a) :
    r.view.readAt (Elt F) (Rect.unit (s := s) off size h).toLoadRect (hr.unread x) = part s off size h x := by
  funext y
  exact hr.readAt_unread x _ y

abbrev boxM0 : LoadRect S2x1x512 := (Rect.unit (s := S2x1x512) ![0, 0, 0] S1x1x512.size inb_S2x1x512_S1x1x512_0_0_0).toLoadRect
abbrev boxM1 : LoadRect S2x1x512 := (Rect.unit (s := S2x1x512) ![1, 0, 0] S1x1x512.size inb_S2x1x512_S1x1x512_1_0_0).toLoadRect
abbrev boxA0 : LoadRect S2x128x512 := (Rect.unit (s := S2x128x512) ![0, 0, 0] S1x128x512.size inb_S2x128x512_S1x128x512_0_0_0).toLoadRect
abbrev boxA1 : LoadRect S2x128x512 := (Rect.unit (s := S2x128x512) ![1, 0, 0] S1x128x512.size inb_S2x128x512_S1x128x512_1_0_0).toLoadRect

section

variable (c : Dev nD) (i : grid0.Coords)
  (arg4 : Memref sig .tc .vmem S1x2x8192x128 .bf16) (harg4 : arg4.IsWhole)
  (arg5 : Memref sig .tc .vmem S1x2x16x128x512 .bf16) (harg5 : arg5.IsWhole)
  (arg7 : Memref sig .tc .vmem S2x1x512 .f32) (arg8 : Memref sig .tc .vmem S2x128x512 .f32)
  (x0 : Vec F S1x2x512x128 .bf16) (x1 : Vec F S1x2x8192x128 .bf16) (x2 : Vec F S1x2x16x128x512 .bf16)

/-- Before trip `n` of the first head's loop. -/
def invZero (n : ℕ) (_ : Unit) : sProp 𝕄 :=
  iprop((arg4.view.loc (c : Thread nD τ) ↦[arg4.view.set]{fullShare} harg4.unread x1)
    ∗ (arg5.view.loc (c : Thread nD τ) ↦[arg5.view.set]{fullShare} harg5.unread x2)
    ∗ (∃ f, (arg7.view.loc (c : Thread nD τ) ↦[arg7.view.set]{fullShare} f)
        ∗ ⌜arg7.view.readAt (Elt F) boxM0 f = (headZero i x0 x1 x2 n).1⌝)
    ∗ (∃ f, (arg8.view.loc (c : Thread nD τ) ↦[arg8.view.set]{fullShare} f)
        ∗ ⌜arg8.view.readAt (Elt F) boxA0 f = (headZero i x0 x1 x2 n).2⌝))

/-- Before trip `n` of the second head's loop. -/
def invOne (n : ℕ) (_ : Unit) : sProp 𝕄 :=
  iprop((arg4.view.loc (c : Thread nD τ) ↦[arg4.view.set]{fullShare} harg4.unread x1)
    ∗ (arg5.view.loc (c : Thread nD τ) ↦[arg5.view.set]{fullShare} harg5.unread x2)
    ∗ (∃ f, (arg7.view.loc (c : Thread nD τ) ↦[arg7.view.set]{fullShare} f)
        ∗ ⌜arg7.view.readAt (Elt F) boxM1 f = (headOne i x0 x1 x2 n).1⌝)
    ∗ (∃ f, (arg8.view.loc (c : Thread nD τ) ↦[arg8.view.set]{fullShare} f)
        ∗ ⌜arg8.view.readAt (Elt F) boxA1 f = (headOne i x0 x1 x2 n).2⌝
        ∗ ⌜arg8.view.readAt (Elt F) boxA0 f = (headZero i x0 x1 x2 (k0_t1_loop i).trips).2⌝))

end

set_option maxHeartbeats 4000000 in
theorem body (c : Dev nD) (i : grid0.Coords) (arg3 : Memref sig .tc .vmem S1x2x512x128 .bf16) (harg3 : arg3.IsWhole) (arg4 : Memref sig .tc .vmem S1x2x8192x128 .bf16) (harg4 : arg4.IsWhole) (arg5 : Memref sig .tc .vmem S1x2x16x128x512 .bf16) (harg5 : arg5.IsWhole) (arg6 : Memref sig .tc .vmem S1x512x128 .bf16) (harg6 : arg6.IsWhole) (arg7 : Memref sig .tc .vmem S2x1x512 .f32) (harg7 : arg7.IsWhole) (arg8 : Memref sig .tc .vmem S2x128x512 .f32) (harg8 : arg8.IsWhole)
    (x0 : Vec F S1x2x512x128 .bf16) (x1 : Vec F S1x2x8192x128 .bf16) (x2 : Vec F S1x2x16x128x512 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (result i x0 x1 x2)
            ∗ (∃ d, owns (c : Thread nD τ) arg7 fullShare d) ∗ (∃ d, owns (c : Thread nD τ) arg8 fullShare d)) -∗ K ⟨⟩))
      ⊢ wp frame (wpE (defs₀ (F := F)) Variants.none c none) E (cc0_fox i arg3 harg3 arg4 harg4 arg5 harg5 arg6 harg6 arg7 harg7 arg8 harg8) K := by
  simp only [cc0_fox_eq_skeleton]; unfold cc0_fox_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg3.eq_unread hf0; obtain rfl := harg4.eq_unread hf1; obtain rfl := harg5.eq_unread hf2
  sl_exec
  sl_for (invZero c i arg4 harg4 arg5 harg5 arg7 arg8 x0 x1 x2) $$ [H1 H2 H4 H5]
  case region =>
    intro k _
    unfold invZero
    iintro ⟨H1, H2, ⟨%f7, H7, %h7⟩, ⟨%f8, H8, %h8⟩⟩
    sl_exec
    sl_step
    isplitl [H1]
    · iexact H1
    isplitl [H2]
    · iexact H2
    isplitl [H7]
    · iexists _; isplitl [H7]
      · iexact H7
      ipureintro
      sl_unfold_run_names
      rw [readAt_stored, headZero_succ, readAt_block, readAt_block]
      rfl
    iexists _; isplitl [H8]
    · iexact H8
    ipureintro
    sl_unfold_run_names
    rw [readAt_stored, headZero_succ, readAt_block, readAt_block, readAt_block]
    rfl
  · unfold invZero
    isplitl [H1]
    · iexact H1
    isplitl [H2]
    · iexact H2
    isplitl [H4]
    · iexists _; isplitl [H4]
      · iexact H4
      ipureintro
      sl_unfold_run_names
      rw [readAt_stored, readAt_block, readAt_block, View.readCov_cons_toLoadRect]
      rfl
    iexists _; isplitl [H5]
    · iexact H5
    ipureintro
    sl_unfold_run_names
    rw [readAt_stored, readAt_block, readAt_block, readAt_block, View.readCov_cons_toLoadRect,
      View.readCov_cons_toLoadRect]
    rfl
  iintro %acc HI
  unfold invZero
  icases HI with ⟨H1, H2, ⟨%g7, H4, %h7⟩, ⟨%g8, H5, %h8⟩⟩
  sl_exec
  sl_for (invOne c i arg4 harg4 arg5 harg5 arg7 arg8 x0 x1 x2) $$ [H1 H2 H4 H5]
  case region =>
    intro k _
    unfold invOne
    iintro ⟨H1, H2, ⟨%f7, H7, %h7⟩, ⟨%f8, H8, %h8, %h9⟩⟩
    sl_exec
    sl_step
    isplitl [H1]
    · iexact H1
    isplitl [H2]
    · iexact H2
    isplitl [H7]
    · iexists _; isplitl [H7]
      · iexact H7
      ipureintro
      sl_unfold_run_names
      rw [readAt_stored, headOne_succ, readAt_block, readAt_block]
      rfl
    iexists _; isplitl [H8]
    · iexact H8
    isplitr
    · ipureintro
      sl_unfold_run_names
      rw [readAt_stored, headOne_succ, readAt_block, readAt_block, readAt_block]
      rfl
    · ipureintro
      rw [readAt_apart (a := (0 : Fin 3)) (ha := by decide)]
      exact h9
  · unfold invOne
    isplitl [H1]
    · iexact H1
    isplitl [H2]
    · iexact H2
    isplitl [H4]
    · iexists _; isplitl [H4]
      · iexact H4
      ipureintro
      sl_unfold_run_names
      rw [readAt_stored, readAt_block, readAt_block, View.readCov_cons_toLoadRect]
      rfl
    iexists _; isplitl [H5]
    · iexact H5
    isplitr
    · ipureintro
      sl_unfold_run_names
      rw [readAt_stored, readAt_block, readAt_block, readAt_block, View.readCov_cons_toLoadRect,
        View.readCov_cons_toLoadRect]
      rfl
    · ipureintro
      sl_unfold_run_names
      rw [readAt_apart (a := (0 : Fin 3)) (ha := by decide), readAt_apart (a := (0 : Fin 3)) (ha := by decide)]
      exact h8
  iintro %acc HI
  unfold invOne
  icases HI with ⟨H1, H2, ⟨%k7, H4, %e7⟩, ⟨%k8, H5, %e8, %e9⟩⟩
  sl_exec
  sl_step
  iapply Hk
  isplitl [H0]
  · iexists _; isplitr
    · ipureintro; exact harg3.read_unread _
    iexact H0
  isplitl [H1]
  · iexists _; isplitr
    · ipureintro; exact harg4.read_unread _
    iexact H1
  isplitl [H2]
  · iexists _; isplitr
    · ipureintro; exact harg5.read_unread _
    iexact H2
  isplitl [H3]
  · iexists _; isplitr
    swap
    · iexact H3
    ipureintro
    exact (read_stored_all _ _ _ _ _ _).trans (by sl_unfold_run_names; rfl)
  isplitl [H4]
  · iexists _, _; isplitr
    swap
    · iexact H4
    ipureintro; rfl
  iexists _, _; isplitr
  swap
  · iexact H5
  ipureintro; rfl

end Cert.KernelIdeal.Fox

end
-- ==== Proof.Fox.Frame.lean ====
/-
  The attention kernel run over its whole grid: every point reads its blocks of the three arguments and writes
  `Fox.result` of them, so the run ends with the arguments unchanged and the output array at what those blocks make.
-/
module

public import proofs.«01_k».proof.Proof.Fox.Body
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The memrefs the body is given at a point. -/
abbrev stage0 (t : Fin cfg0.N) : Memref sig .tc .vmem S1x2x512x128 .bf16 := win0_0.stage (cfg0.slots t 0)
abbrev stage1 (t : Fin cfg0.N) : Memref sig .tc .vmem S1x2x8192x128 .bf16 := win0_1.stage (cfg0.slots t 1)
abbrev stage2 (t : Fin cfg0.N) : Memref sig .tc .vmem S1x2x16x128x512 .bf16 := win0_2.stage (cfg0.slots t 2)
abbrev stage3 (t : Fin cfg0.N) : Memref sig .tc .vmem S1x512x128 .bf16 := win0_3.stage (cfg0.slots t 3)
abbrev scratchM : Memref sig .tc .vmem S2x1x512 .f32 := Memref.whole cc0_scratch0
abbrev scratchA : Memref sig .tc .vmem S2x128x512 .f32 := Memref.whole cc0_scratch1

/-- What a point keeps between its runs: the two scratch buffers, at some contents. -/
theorem kept_eq (c : Dev nD) :
    (Pipeline.ΦA spec0 c : sProp 𝕄)
      = iprop(iprop((∃ d, owns (c : Thread nD τ) scratchM fullShare d) ∗ (∃ d, owns (c : Thread nD τ) scratchA fullShare d))
          ∗ (∃ r, prngReg c r)) := by
  unfold Pipeline.ΦA; rw [scopedRest0_eq]; simp only [scratchM, scratchA, owns_whole]; try rfl

/-- The block of the output a point writes. -/
def block (c : Dev nD) (t : Fin cfg0.N) : Vec F S1x512x128 .bf16 :=
  result (grid0.coords t) (iblk m c 0 t) (iblk m c 1 t) (iblk m c 2 t)

/-- What every window holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = block m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The body at a point, between what it is given and what it leaves. -/
theorem point (c : Dev nD) (t : Fin cfg0.N) :
    iprop((dats m 0 c).Φ t.castSucc ∗ (dats m 0 c).owesAt () t.castSucc
      ∗ (∃ d, owns (c : Thread nD τ) (stage0 t) fullShare ((dats m 0 c).before 0 t d))
      ∗ (∃ d, owns (c : Thread nD τ) (stage1 t) fullShare ((dats m 0 c).before 1 t d))
      ∗ (∃ d, owns (c : Thread nD τ) (stage2 t) fullShare ((dats m 0 c).before 2 t d))
      ∗ (∃ d, owns (c : Thread nD τ) (stage3 t) fullShare ((dats m 0 c).before 3 t d)))
    ⊢ wp frame (wpE (defs₀ (F := F)) Variants.none c none) Set.univ (bodyAt0 t) (fun _ =>
      iprop((dats m 0 c).Φ t.succ ∗ (dats m 0 c).owesAt () t.succ
      ∗ owns (c : Thread nD τ) (stage0 t) fullShare ((dats m 0 c).after 0 t)
      ∗ owns (c : Thread nD τ) (stage1 t) fullShare ((dats m 0 c).after 1 t)
      ∗ owns (c : Thread nD τ) (stage2 t) fullShare ((dats m 0 c).after 2 t)
      ∗ owns (c : Thread nD τ) (stage3 t) fullShare ((dats m 0 c).after 3 t))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, kept_eq]
  unfold block
  iintro ⟨⟨⟨HM, HA⟩, Hg⟩, Ho, ⟨%d0, H0⟩, ⟨%d1, H1⟩, ⟨%d2, H2⟩, ⟨%d3, H3⟩⟩
  iapply (body c (grid0.coords t) _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HM]; · iexact HM
  isplitl [HA]; · iexact HA
  iintro ⟨H0, H1, H2, H3, HM, HA⟩
  isplitl [HM HA Hg]
  · isplitl [HM HA]
    · isplitl [HM]
      · iexact HM
      iexact HA
    iexact Hg
  isplitl [Ho]; · iexact Ho
  isplitl [H0]; · iexact H0
  isplitl [H1]; · iexact H1
  isplitl [H2]; · iexact H2
  iexact H3

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- The run of the whole program. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The output array ends at what the blocks make. -/
theorem output : θ_run defs (onTc (τ := τ) (main (F := F))) ⟨m, fun _ => 0, ρ⟩ (fun r => ∀ c : Dev nD,
      r.2.mem ((c.tc : Thread nD τ).loc main_v0) = (dats m 0 c).arrAt 3 cfg0.N) :=
  (θ_run defs _ _).mono (fun _ h c => (h.1 c).1 3) (run m ρ)

end Cert.KernelIdeal.Fox

end
-- ==== Proof.Fox.Scalars.lean ====
/-
  Numbers that the attention kernel's operations are made of.
-/
module

public import proofs.«01_k».proof.Proof.Fox.State
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen Idealize.ShloMosaic
open scoped BigOperators

/-- The constant that begins each block's maximum is minus infinity. -/
theorem floor_eq : Ideal.ofBits FTy.f32 0xFF800000#32 = ⊥ := by
  simp [Ideal.ofBits, Ideal.ieee]

/-- A block's greatest score. -/
def greatest (s : Fin 512 → EReal) : EReal := Finset.fold max (Ideal.ofBits FTy.f32 0xFF800000#32) s Finset.univ

theorem greatest_eq (s : Fin 512 → EReal) : greatest s = Finset.univ.sup s := by
  rw [greatest, floor_eq]; rfl

/-- The new maximum. -/
def newMax (m : EReal) (s : Fin 512 → EReal) : EReal := max m (greatest s)

/-- The new sum. -/
def newSum (m a : EReal) (s v : Fin 512 → EReal) : EReal :=
  a * Ideal.exp (m - newMax m s) + ∑ x, v x * Ideal.exp (s x - newMax m s)

/-- The kernel's mask on the diagonal block: key `x` is seen by query `c` when `x ≤ c`. -/
theorem select_le (x c : Fin 512) (a b : EReal) :
    Scalar.select (IntOp.cmpi CmpIPredicate.sle (BitVec.ofNat 32 x.val) (BitVec.ofNat 32 c.val)) a b = if x.val ≤ c.val then a else b := by
  rw [WordCmp.cmpi_sle_ofNat (by omega) (by omega)]
  by_cases h : x.val ≤ c.val <;> simp [Scalar.select, h]

end Cert.KernelIdeal.Fox
end
-- ==== Proof.Fox.Step.lean ====
/-
  The attention kernel's operations, element by element over the extended reals.
-/
module

public import proofs.«01_k».proof.Proof.Fox.State
public import proofs.«01_k».proof.Proof.Fox.Scalars
public import Idealize.ShloMosaic.Lib.Pointwise
public import Idealize.ShloMosaic.Lib.Pipeline.ValueKit

@[expose] public section

set_option maxRecDepth 16384

noncomputable section

namespace Cert.KernelIdeal.Fox

open Cert.KernelIdeal Cert.KernelIdeal.Gen Idealize.ShloMosaic
open scoped BigOperators

section

/-! Each of the kernel's two heads runs its own copy of the same operations: the names end in the head. -/

variable (q : FVec Ideal S512x128 .bf16) (q' k : Vec Ideal S1x1x512x128 .bf16) (m : Vec Ideal S1x1x512 .f32)
  (a : Vec Ideal S1x128x512 .f32) (v : Vec Ideal S1x1x1x128x512 .bf16) (r : Fin 128) (c : Fin 512)

theorem nextMax_zero : k0_pay7 (F := Ideal) q k m (ix3 0 0 c)
    = newMax (m (ix3 0 0 c)) (fun x => ∑ e, k (ix4 0 0 x e) * q (ix2 c e)) := by
  pointwise [k0_pay7, k0_pay5, k0_pay4, k0_pay3, newMax, greatest]

theorem nextMax_one : k0_pay17 (F := Ideal) q k m (ix3 0 0 c)
    = newMax (m (ix3 0 0 c)) (fun x => ∑ e, k (ix4 0 0 x e) * q (ix2 c e)) := by
  pointwise [k0_pay17, k0_pay15, k0_pay14, k0_pay13, newMax, greatest]

theorem nextSum_zero : k0_pay6 (F := Ideal) q k m a v (ix3 0 r c)
    = newSum (m (ix3 0 0 c)) (a (ix3 0 r c)) (fun x => ∑ e, k (ix4 0 0 x e) * q (ix2 c e)) (fun x => v (ix5 0 0 0 r x)) := by
  pointwise [k0_pay6, k0_pay5, k0_pay4, k0_pay3, newMax, newSum, greatest]

theorem nextSum_one : k0_pay16 (F := Ideal) q k m a v (ix3 0 r c)
    = newSum (m (ix3 0 0 c)) (a (ix3 0 r c)) (fun x => ∑ e, k (ix4 0 0 x e) * q (ix2 c e)) (fun x => v (ix5 0 0 0 r x)) := by
  pointwise [k0_pay16, k0_pay15, k0_pay14, k0_pay13, newMax, newSum, greatest]

theorem diagMax_zero : k0_pay32 (F := Ideal) (k0_pay29 q' k (k0_pay25 (F := Ideal))) (ix3 0 0 c)
    = newMax ⊥ (fun x => if x.val ≤ c.val then ∑ e, k (ix4 0 0 x e) * q' (ix4 0 0 c e) else ⊥) := by
  simp only [← select_le]
  pointwise [k0_pay32, k0_pay29, k0_pay28, k0_pay27, k0_pay25, k0_pay24, k0_pay23, newMax, greatest]
  rfl

theorem diagMax_one : k0_pay1 (F := Ideal) (k0_pay39 k0_pay23 q k (k0_pay34 (F := Ideal))) (ix3 0 0 c)
    = newMax ⊥ (fun x => if x.val ≤ c.val then ∑ e, k (ix4 0 0 x e) * q (ix2 c e) else ⊥) := by
  simp only [← select_le]
  pointwise [k0_pay1, k0_pay39, k0_pay38, k0_pay37, k0_pay34, k0_pay23, newMax, greatest]
  rfl

theorem diagSum_zero : k0_pay31 (F := Ideal) (k0_pay28 (k0_pay25 (F := Ideal))) (k0_pay29 q' k (k0_pay25 (F := Ideal)))
      (k0_pay30 q' k (k0_pay25 (F := Ideal))) (k0_pay26 (F := Ideal)) v (ix3 0 r c)
    = newSum ⊥ 0 (fun x => if x.val ≤ c.val then ∑ e, k (ix4 0 0 x e) * q' (ix4 0 0 c e) else ⊥) (fun x => v (ix5 0 0 0 r x)) := by
  simp only [← select_le]
  pointwise [k0_pay31, k0_pay30, k0_pay29, k0_pay28, k0_pay27, k0_pay26, k0_pay25, k0_pay24, k0_pay23, newMax, newSum, greatest]
  rfl

theorem diagSum_one : k0_pay40 (F := Ideal) k0_pay23 q k (k0_pay34 (F := Ideal)) (k0_pay36 (k0_pay35 (F := Ideal))) v (ix3 0 r c)
    = newSum ⊥ 0 (fun x => if x.val ≤ c.val then ∑ e, k (ix4 0 0 x e) * q (ix2 c e) else ⊥) (fun x => v (ix5 0 0 0 r x)) := by
  simp only [← select_le]
  pointwise [k0_pay40, k0_pay39, k0_pay38, k0_pay37, k0_pay36, k0_pay35, k0_pay34, k0_pay23, newMax, newSum, greatest]
  rfl

/-- The block that is written: each head's 64 rows divided by that head's row 64, turned over. -/
theorem write_apply (a b : Vec Ideal S1x128x512 .f32) (l : Fin 128) : k0_pay2 (F := Ideal) a b (ix3 0 c l)
    = if h : l.val < 64 then Ideal.div (a (ix3 0 l c)) (a (ix3 0 64 c))
      else Ideal.div (b (ix3 0 (⟨l.val - 64, by omega⟩ : Fin 128) c)) (b (ix3 0 64 c)) := by
  pointwise [k0_pay2]

end

end Cert.KernelIdeal.Fox
end
-- ==== Proof.Fox.Softmax.lean ====
/-
  The weighted sum of a softmax row, built up over sets of positions: the mathematics of the attention kernel, apart
  from any program.

  `s` is the row of scores, over the extended reals: a hidden position has score `⊥`, and no score is `⊤`.  `v` is a
  row of values, which may be infinite.
-/
module

public import Idealize.ShloMosaic.PureOps.Ideal.Laws

@[expose] public section

noncomputable section

namespace Cert.Softmax

open Idealize.ShloMosaic
open scoped BigOperators

variable {J : Type} [DecidableEq J]

/-- What is held after the positions in `A`: their greatest score, a real number, and the sum of the values weighted
    by the exponentials of the scores above it. -/
structure After (A : Finset J) (s v : J → EReal) (m a : EReal) : Prop where
  max_eq : m = A.sup s
  ne_bot : m ≠ ⊥
  ne_top : m ≠ ⊤
  sum_eq : a = ∑ j ∈ A, v j * Ideal.exp (s j - m)

theorem sup_ne_top {A : Finset J} {s : J → EReal} (h : ∀ j, s j ≠ ⊤) : A.sup s ≠ ⊤ := by
  refine ne_of_lt ((Finset.sup_lt_iff (by exact bot_lt_top)).2 fun j _ => lt_top_iff_ne_top.2 (h j))

/-- Moving the exponential of a difference from one reference point to another. -/
theorem exp_mul {x m m' : EReal} (hx : x ≠ ⊤) (hm : m ≠ ⊥) (hm' : m ≠ ⊤) (h : m' ≠ ⊥) (h' : m' ≠ ⊤) :
    Ideal.exp (x - m) * Ideal.exp (m - m') = Ideal.exp (x - m') := by
  lift m to ℝ using ⟨hm', hm⟩
  lift m' to ℝ using ⟨h', h⟩
  induction x using EReal.rec with
  | bot => simp [← EReal.coe_sub]
  | coe x =>
    rw [← EReal.coe_sub, ← EReal.coe_sub, ← EReal.coe_sub, Ideal.exp_coe, Ideal.exp_coe, Ideal.exp_coe, ← EReal.coe_mul,
      ← Real.exp_add]
    congr 2
    ring
  | top => exact absurd rfl hx

/-- An exponential below a real reference point is a nonnegative real number. -/
theorem exp_real {x m : EReal} (hx : x ≠ ⊤) (hm : m ≠ ⊥) (hm' : m ≠ ⊤) : ∃ r : ℝ, 0 ≤ r ∧ Ideal.exp (x - m) = r := by
  lift m to ℝ using ⟨hm', hm⟩
  induction x using EReal.rec with
  | bot => exact ⟨0, le_rfl, by simp⟩
  | coe x => exact ⟨Real.exp (x - m), (Real.exp_pos _).le, by rw [← EReal.coe_sub, Ideal.exp_coe]⟩
  | top => exact absurd rfl hx

/-- A nonnegative real factor goes into a sum of extended reals. -/
theorem sum_mul (A : Finset J) (f : J → EReal) (c : ℝ) (hc : 0 ≤ c) : (∑ j ∈ A, f j) * (c : EReal) = ∑ j ∈ A, f j * (c : EReal) := by
  induction A using Finset.induction_on with
  | empty => simp
  | insert j A h ih =>
    rw [Finset.sum_insert h, Finset.sum_insert h,
      EReal.right_distrib_of_nonneg_of_ne_top (EReal.coe_nonneg.2 hc) (EReal.coe_ne_top c), ih]

/-- A finite sum of real numbers, taken among the extended reals. -/
theorem coe_sum (A : Finset J) (e : J → ℝ) : ((∑ j ∈ A, e j : ℝ) : EReal) = ∑ j ∈ A, (e j : EReal) := by
  induction A using Finset.induction_on with
  | empty => simp
  | insert j A h ih => rw [Finset.sum_insert h, Finset.sum_insert h, EReal.coe_add, ih]

/-- The first set of positions, from the kernel's empty start. -/
theorem first {B : Finset J} {s : J → EReal} (v : J → EReal) (hs : ∀ j, s j ≠ ⊤) (j₀ : J) (hj : j₀ ∈ B) (h₀ : s j₀ ≠ ⊥) :
    After B s v (max ⊥ (B.sup s))
      (0 * Ideal.exp (⊥ - max ⊥ (B.sup s)) + ∑ j ∈ B, v j * Ideal.exp (s j - max ⊥ (B.sup s))) := by
  rw [max_eq_right bot_le, zero_mul, zero_add]
  exact ⟨rfl, fun h => h₀ (le_bot_iff.1 (h ▸ Finset.le_sup hj)), sup_ne_top hs, rfl⟩

/-- A further set of positions. -/
theorem After.step {A : Finset J} {s v : J → EReal} {m a : EReal} (h : After A s v m a) {B : Finset J} (hd : Disjoint A B)
    (hs : ∀ j, s j ≠ ⊤) :
    After (A ∪ B) s v (max m (B.sup s))
      (a * Ideal.exp (m - max m (B.sup s)) + ∑ j ∈ B, v j * Ideal.exp (s j - max m (B.sup s))) := by
  have hb : max m (B.sup s) ≠ ⊥ := fun e => h.ne_bot (le_bot_iff.1 (e ▸ le_max_left _ _))
  have ht : max m (B.sup s) ≠ ⊤ := by
    rcases max_choice m (B.sup s) with e | e <;> rw [e]
    · exact h.ne_top
    · exact sup_ne_top hs
  refine ⟨by rw [h.max_eq, Finset.sup_union], hb, ht, ?_⟩
  generalize max m (B.sup s) = m' at hb ht
  obtain ⟨c, hc, e⟩ := exp_real h.ne_top hb ht
  rw [Finset.sum_union hd]
  congr 1
  rw [e, h.sum_eq, sum_mul A _ c hc]
  refine Finset.sum_congr rfl fun j _ => ?_
  rw [mul_assoc, ← e, exp_mul (hs j) h.ne_bot h.ne_top hb ht]

/-- Positions of score `⊥` may be left out. -/
theorem After.univ [Fintype J] {A : Finset J} {s v : J → EReal} {m a : EReal} (h : After A s v m a)
    (hA : ∀ j, j ∉ A → s j = ⊥) : After Finset.univ s v m a := by
  refine ⟨h.max_eq.trans (le_antisymm (Finset.sup_mono (Finset.subset_univ A)) (Finset.sup_le fun j _ => ?_)), h.ne_bot,
    h.ne_top, h.sum_eq.trans (Finset.sum_subset (Finset.subset_univ A) fun j _ hj => ?_)⟩
  · by_cases hj : j ∈ A
    · exact Finset.le_sup hj
    · rw [hA j hj]; exact bot_le
  · rw [hA j hj, EReal.bot_sub, Ideal.exp_bot, mul_zero]

/-- The quotient of the weighted sum by the sum of the weights: the softmax's weighted mean. -/
theorem mean [Fintype J] {s v w : J → EReal} {m a l : EReal} (hv : After Finset.univ s v m a) (hw : After Finset.univ s w m l)
    (h1 : ∀ j, w j = 1) (hs : ∀ j, s j ≠ ⊤) :
    Ideal.div a l = ∑ j, Ideal.div (Ideal.exp (s j - Finset.univ.sup s)) (∑ k, Ideal.exp (s k - Finset.univ.sup s)) * v j := by
  rw [← hv.max_eq]
  have hl : l = ∑ k, Ideal.exp (s k - m) := by
    rw [hw.sum_eq]; exact Finset.sum_congr rfl fun j _ => by rw [h1 j, one_mul]
  rw [← hl]
  choose e he0 he using fun j => exp_real (hs j) hv.ne_bot hv.ne_top
  have hr : l = ((∑ k, e k : ℝ) : EReal) := by
    rw [hl, coe_sum]
    exact Finset.sum_congr rfl fun j _ => he j
  have hne : (Finset.univ : Finset J).Nonempty := by
    by_contra hc
    rw [Finset.not_nonempty_iff_eq_empty] at hc
    exact hv.ne_bot (by rw [hv.max_eq, hc, Finset.sup_empty])
  obtain ⟨j₀, _, hj⟩ := Finset.exists_mem_eq_sup Finset.univ hne s
  have hpos : 0 < ∑ k, e k := by
    refine Finset.sum_pos' (fun j _ => he0 j) ⟨j₀, Finset.mem_univ _, ?_⟩
    have h0 : Ideal.exp (s j₀ - m) = 1 := by
      rw [← hj, ← hv.max_eq]
      obtain ⟨r, hr⟩ : ∃ r : ℝ, m = r := ⟨m.toReal, (EReal.coe_toReal hv.ne_top hv.ne_bot).symm⟩
      rw [hr, ← EReal.coe_sub, sub_self, Ideal.exp_coe, Real.exp_zero, EReal.coe_one]
    rw [he j₀] at h0
    rw [EReal.coe_eq_one.1 h0]
    exact one_pos
  have hl0 : l ≠ 0 := by rw [hr]; exact EReal.coe_ne_zero.2 hpos.ne'
  have hdiv : ∀ x : EReal, Ideal.div x l = x * (((∑ k, e k)⁻¹ : ℝ) : EReal) := fun x => by
    rw [Ideal.div, if_neg hl0, hr, EReal.coe_inv]
  rw [hdiv, hv.sum_eq, sum_mul _ _ _ (inv_nonneg.2 hpos.le)]
  refine Finset.sum_congr rfl fun j _ => ?_
  rw [hdiv, mul_assoc, mul_comm]

end Cert.Softmax

end
-- ==== Proof.Fox.Places.lean ====
/-
  Where the attention kernel's loops load from: trip `t` of either loop takes the key block `t + 1` before the diagonal.
-/
module

public import proofs.«01_k».proof.Proof.Gen.KernelIdeal

@[expose] public section

set_option maxRecDepth 16384

noncomputable section

namespace Cert.KernelIdeal.Fox

open Cert.KernelIdeal Cert.KernelIdeal.Gen Idealize.ShloMosaic

theorem trips_zero : ∀ i : grid0.Coords, (k0_t1_loop i).trips = (i 2).val := by decide +kernel
theorem trips_one : ∀ i : grid0.Coords, (k0_t3_loop i).trips = (i 2).val := by decide +kernel
theorem key_zero : ∀ (i : grid0.Coords) (t : Fin (k0_t1_loop i).trips),
    k0_off3 i t = ![0, 0, 512 * ((i 2).val - 1 - t.val), 0] := by decide +kernel
theorem value_zero : ∀ (i : grid0.Coords) (t : Fin (k0_t1_loop i).trips),
    k0_off4 i t = ![0, 0, (i 2).val - 1 - t.val, 0, 0] := by decide +kernel
theorem key_one : ∀ (i : grid0.Coords) (t : Fin (k0_t3_loop i).trips),
    k0_off9 i t = ![0, 1, 512 * ((i 2).val - 1 - t.val), 0] := by decide +kernel
theorem value_one : ∀ (i : grid0.Coords) (t : Fin (k0_t3_loop i).trips),
    k0_off10 i t = ![0, 1, (i 2).val - 1 - t.val, 0, 0] := by decide +kernel

end Cert.KernelIdeal.Fox
end
-- ==== Proof.Fox.Point.lean ====
/-
  The attention kernel at one grid point, over the extended reals: what it holds after each block of keys, and what
  it writes.
-/
module

public import proofs.«01_k».proof.Proof.Fox.Step
public import proofs.«01_k».proof.Proof.Fox.Softmax
public import proofs.«01_k».proof.Proof.Fox.Places

@[expose] public section

set_option maxRecDepth 16384

noncomputable section

namespace Cert.KernelIdeal.Fox

open Cert.KernelIdeal Cert.KernelIdeal.Gen Idealize.ShloMosaic Cert.Softmax
open scoped BigOperators

/-! ### Blocks of keys -/

/-- Position `x` of key block `b`. -/
def place (b : Fin 16) : Fin 512 ↪ Fin 8192 :=
  ⟨fun x => ⟨512 * b.val + x.val, by omega⟩, fun x y h => by
    have := congrArg Fin.val h
    exact Fin.ext (by simpa using this)⟩

theorem place_val (b : Fin 16) (x : Fin 512) : (place b x).val = 512 * b.val + x.val := rfl

/-- The positions of key block `b`. -/
def keys (b : Fin 16) : Finset (Fin 8192) := Finset.univ.map (place b)

/-- The positions seen after the diagonal block `p` and the `n` blocks before it. -/
def seen (p n : ℕ) : Finset (Fin 8192) := Finset.univ.filter fun j => p ≤ j.val / 512 + n ∧ j.val / 512 ≤ p

theorem mem_keys (b : Fin 16) (j : Fin 8192) : j ∈ keys b ↔ j.val / 512 = b.val := by
  unfold keys
  rw [Finset.mem_map]
  constructor
  · rintro ⟨x, _, rfl⟩
    rw [place_val]; omega
  · intro h
    exact ⟨⟨j.val % 512, by omega⟩, Finset.mem_univ _, Fin.ext (by rw [place_val]; show _ + j.val % 512 = _; omega)⟩

theorem mem_seen (p n : ℕ) (j : Fin 8192) : j ∈ seen p n ↔ p ≤ j.val / 512 + n ∧ j.val / 512 ≤ p := by
  unfold seen; simp

theorem seen_zero (b : Fin 16) : seen b.val 0 = keys b := by
  ext j; rw [mem_seen, mem_keys]; omega

theorem seen_succ (p n : ℕ) (b : Fin 16) (h : b.val + (n + 1) = p) : seen p (n + 1) = seen p n ∪ keys b := by
  ext j; rw [Finset.mem_union, mem_seen, mem_seen, mem_keys]; omega

theorem seen_disjoint (p n : ℕ) (b : Fin 16) (h : b.val + (n + 1) = p) : Disjoint (seen p n) (keys b) := by
  rw [Finset.disjoint_left]
  intro j; rw [mem_seen, mem_keys]; omega

/-! ### One block of keys -/

section

variable {s v : Fin 8192 → EReal} (hs : ∀ j, s j ≠ ⊤) (b : Fin 16) (sb vb : Fin 512 → EReal)
  (es : ∀ x, sb x = s (place b x)) (ev : ∀ x, vb x = v (place b x))

include es in
theorem greatest_keys : greatest sb = (keys b).sup s := by
  rw [greatest_eq, keys, Finset.sup_map]
  exact congrArg _ (funext es)

include es ev in
theorem sum_keys (m : EReal) : ∑ x, vb x * Ideal.exp (sb x - m) = ∑ j ∈ keys b, v j * Ideal.exp (s j - m) := by
  rw [keys, Finset.sum_map]
  exact Finset.sum_congr rfl fun x _ => by rw [es, ev]

include hs es ev in
/-- The diagonal block. -/
theorem begin_keys (x : Fin 512) (hx : sb x ≠ ⊥) : After (keys b) s v (newMax ⊥ sb) (newSum ⊥ 0 sb vb) := by
  unfold newSum newMax
  rw [greatest_keys b sb es, sum_keys b sb vb es ev]
  exact first v hs (place b x) ((mem_keys b _).2 (by rw [place_val]; omega)) (es x ▸ hx)

include hs es ev in
/-- An earlier block. -/
theorem step_keys {A : Finset (Fin 8192)} {m a : EReal} (h : After A s v m a) (hd : Disjoint A (keys b)) :
    After (A ∪ keys b) s v (newMax m sb) (newSum m a sb vb) := by
  unfold newSum newMax
  rw [greatest_keys b sb es, sum_keys b sb vb es ev]
  exact h.step hd hs

end

/-! ### The two heads -/

section

variable (i : grid0.Coords) (x0 : Vec Ideal S1x2x512x128 .bf16) (x1 : Vec Ideal S1x2x8192x128 .bf16)
  (x2 : Vec Ideal S1x2x16x128x512 .bf16)

/-- The score of query `c` against key `j`. -/
def score (h : Fin 2) (c : Fin 512) (j : Fin 8192) : EReal := ∑ e : Fin 128, x1 (ix4 0 h j e) * x0 (ix4 0 h c e)

/-- The score, hidden where the key comes after the query. -/
def masked (h : Fin 2) (c : Fin 512) (j : Fin 8192) : EReal :=
  if j.val ≤ 512 * (i 2).val + c.val then score x0 x1 h c j else ⊥

/-- Row `r` of the values. -/
def value (h : Fin 2) (r : Fin 128) (j : Fin 8192) : EReal :=
  x2 (ix5 0 h (⟨j.val / 512, by omega⟩ : Fin 16) r (⟨j.val % 512, by omega⟩ : Fin 512))

theorem query_zero (c : Fin 512) (e : Fin 128) : queryZero x0 (ix4 0 0 c e) = x0 (ix4 0 0 c e) := by
  pointwise [queryZero, part]

theorem query_one (c : Fin 512) (e : Fin 128) : queryOne x0 (ix4 0 0 c e) = x0 (ix4 0 1 c e) := by
  pointwise [queryOne, part]

theorem cast_zero (q : Vec Ideal S1x1x512x128 .bf16) (c : Fin 512) (e : Fin 128) : k0_pay24 (F := Ideal) q (ix2 c e) = q (ix4 0 0 c e) := by
  pointwise [k0_pay24]

theorem cast_one (q : Vec Ideal S1x1x512x128 .bf16) (c : Fin 512) (e : Fin 128) : k0_pay33 (F := Ideal) q (ix2 c e) = q (ix4 0 0 c e) := by
  pointwise [k0_pay33]

theorem key_part (off : Fin 4 → ℕ) (hb : ∀ a, off a + S1x1x512x128.size a ≤ S1x2x8192x128.size a) (h : Fin 2) (b : Fin 16)
    (e : off = ![0, h.val, 512 * b.val, 0]) (x : Fin 512) (k : Fin 128) :
    part S1x2x8192x128 off S1x1x512x128.size hb x1 (ix4 0 0 x k) = x1 (ix4 0 h (place b x) k) := by
  subst e
  unfold part
  refine congrArg x1 (funext fun a => Fin.ext ?_)
  fin_cases a <;> simp [Rect.unit, Rect.toLoadRect]
  rfl

theorem value_part (off : Fin 5 → ℕ) (hb : ∀ a, off a + S1x1x1x128x512.size a ≤ S1x2x16x128x512.size a) (h : Fin 2) (b : Fin 16)
    (e : off = ![0, h.val, b.val, 0, 0]) (r : Fin 128) (x : Fin 512) :
    part S1x2x16x128x512 off S1x1x1x128x512.size hb x2 (ix5 0 0 0 r x) = value x2 h r (place b x) := by
  subst e
  unfold part value
  refine congrArg x2 (funext fun a => Fin.ext ?_)
  fin_cases a <;> simp [Rect.unit, Rect.toLoadRect, place_val]
  · omega
  · omega

/-- The queries and keys are real numbers: no score is infinite. -/
def Real : Prop := ∀ h c j, score x0 x1 h c j ≠ ⊤ ∧ score x0 x1 h c j ≠ ⊥

theorem masked_ne_top (hr : Real x0 x1) (h : Fin 2) (c : Fin 512) (j : Fin 8192) : masked i x0 x1 h c j ≠ ⊤ := by
  unfold masked
  split
  · exact (hr h c j).1
  · exact bot_ne_top

/-- On the diagonal block the mask compares positions inside the block. -/
theorem masked_diag (h : Fin 2) (c x : Fin 512) (b : Fin 16) (hb : b.val = (i 2).val) :
    (if x.val ≤ c.val then score x0 x1 h c (place b x) else ⊥) = masked i x0 x1 h c (place b x) := by
  unfold masked
  rw [place_val, hb]
  exact if_congr (by omega) rfl rfl

/-- On an earlier block nothing is hidden. -/
theorem masked_earlier (h : Fin 2) (c x : Fin 512) (b : Fin 16) (hb : b.val < (i 2).val) :
    score x0 x1 h c (place b x) = masked i x0 x1 h c (place b x) := by
  unfold masked
  rw [place_val, if_pos (by omega)]

theorem coord_lt : (i 2).val < 16 := (i 2).isLt

/-- The first head after `n` blocks before the diagonal one. -/
theorem after_zero (hr : Real x0 x1) (c : Fin 512) (r : Fin 128) (n : ℕ) (hn : n ≤ (i 2).val) :
    After (seen (i 2).val n) (masked i x0 x1 0 c) (value x2 0 r)
      ((headZero i x0 x1 x2 n).1 (ix3 0 0 c)) ((headZero i x0 x1 x2 n).2 (ix3 0 r c)) := by
  have hs := masked_ne_top i x0 x1 hr 0 c
  induction n with
  | zero =>
    have e := seen_zero ⟨(i 2).val, coord_lt i⟩
    rw [show seen (i 2).val 0 = keys ⟨(i 2).val, coord_lt i⟩ from e]
    show After _ _ _ ((diagZero i x0 x1 x2).1 (ix3 0 0 c)) ((diagZero i x0 x1 x2).2 (ix3 0 r c))
    unfold diagZero
    dsimp only
    rw [diagMax_zero, diagSum_zero]
    refine begin_keys hs ⟨(i 2).val, coord_lt i⟩ _ _ (fun x => ?_) (fun x => ?_) c ?_
    · rw [← masked_diag i x0 x1 0 c x ⟨(i 2).val, coord_lt i⟩ rfl]
      simp only [query_zero, key_part x1 _ _ 0 ⟨(i 2).val, coord_lt i⟩ (k0_off1_eq i)]
      rfl
    · rw [value_part x2 _ _ 0 ⟨(i 2).val, coord_lt i⟩ (k0_off2_eq i)]
    · rw [if_pos le_rfl]
      simp only [query_zero, key_part x1 _ _ 0 ⟨(i 2).val, coord_lt i⟩ (k0_off1_eq i)]
      exact (hr 0 c _).2
  | succ n ih =>
    have ht : n < (k0_t1_loop i).trips := by rw [trips_zero]; omega
    have hc := coord_lt i
    have hb : (⟨(i 2).val - 1 - n, by omega⟩ : Fin 16).val + (n + 1) = (i 2).val := by show (i 2).val - 1 - n + (n + 1) = _; omega
    rw [headZero_succ i x0 x1 x2 ⟨n, ht⟩, seen_succ _ _ _ hb]
    unfold nextZero
    dsimp only
    rw [nextMax_zero, nextSum_zero]
    refine step_keys hs _ _ _ (fun x => ?_) (fun x => ?_) (ih (by omega)) (seen_disjoint _ _ _ hb)
    · rw [← masked_earlier i x0 x1 0 c x _ (by show (i 2).val - 1 - n < _; omega)]
      simp only [cast_zero, query_zero, key_part x1 _ _ 0 ⟨(i 2).val - 1 - n, by omega⟩ (key_zero i ⟨n, ht⟩)]
      rfl
    · rw [value_part x2 _ _ 0 ⟨(i 2).val - 1 - n, by omega⟩ (value_zero i ⟨n, ht⟩)]

/-- The second head after `n` blocks before the diagonal one. -/
theorem after_one (hr : Real x0 x1) (c : Fin 512) (r : Fin 128) (n : ℕ) (hn : n ≤ (i 2).val) :
    After (seen (i 2).val n) (masked i x0 x1 1 c) (value x2 1 r)
      ((headOne i x0 x1 x2 n).1 (ix3 0 0 c)) ((headOne i x0 x1 x2 n).2 (ix3 0 r c)) := by
  have hs := masked_ne_top i x0 x1 hr 1 c
  induction n with
  | zero =>
    have e := seen_zero ⟨(i 2).val, coord_lt i⟩
    rw [show seen (i 2).val 0 = keys ⟨(i 2).val, coord_lt i⟩ from e]
    show After _ _ _ ((diagOne i x0 x1 x2).1 (ix3 0 0 c)) ((diagOne i x0 x1 x2).2 (ix3 0 r c))
    unfold diagOne
    dsimp only
    rw [diagMax_one, diagSum_one]
    refine begin_keys hs ⟨(i 2).val, coord_lt i⟩ _ _ (fun x => ?_) (fun x => ?_) c ?_
    · rw [← masked_diag i x0 x1 1 c x ⟨(i 2).val, coord_lt i⟩ rfl]
      simp only [cast_one, query_one, key_part x1 _ _ 1 ⟨(i 2).val, coord_lt i⟩ (k0_off7_eq i)]
      rfl
    · rw [value_part x2 _ _ 1 ⟨(i 2).val, coord_lt i⟩ (k0_off8_eq i)]
    · rw [if_pos le_rfl]
      simp only [cast_one, query_one, key_part x1 _ _ 1 ⟨(i 2).val, coord_lt i⟩ (k0_off7_eq i)]
      exact (hr 1 c _).2
  | succ n ih =>
    have ht : n < (k0_t3_loop i).trips := by rw [trips_one]; omega
    have hc := coord_lt i
    have hb : (⟨(i 2).val - 1 - n, by omega⟩ : Fin 16).val + (n + 1) = (i 2).val := by show (i 2).val - 1 - n + (n + 1) = _; omega
    rw [headOne_succ i x0 x1 x2 ⟨n, ht⟩, seen_succ _ _ _ hb]
    unfold nextOne
    dsimp only
    rw [nextMax_one, nextSum_one]
    refine step_keys hs _ _ _ (fun x => ?_) (fun x => ?_) (ih (by omega)) (seen_disjoint _ _ _ hb)
    · rw [← masked_earlier i x0 x1 1 c x _ (by show (i 2).val - 1 - n < _; omega)]
      simp only [cast_one, query_one, key_part x1 _ _ 1 ⟨(i 2).val - 1 - n, by omega⟩ (key_one i ⟨n, ht⟩)]
      rfl
    · rw [value_part x2 _ _ 1 ⟨(i 2).val - 1 - n, by omega⟩ (value_one i ⟨n, ht⟩)]

/-- Outside the blocks gone over every key comes after the query. -/
theorem masked_outside (h : Fin 2) (c : Fin 512) (j : Fin 8192) (hj : j ∉ seen (i 2).val (i 2).val) : masked i x0 x1 h c j = ⊥ := by
  unfold masked
  rw [mem_seen] at hj
  exact if_neg (by omega)

/-- The attention of query `c` at one head: the values, weighed by the softmax of the scores. -/
def attend (s v : Fin 8192 → EReal) : EReal :=
  ∑ j, Ideal.div (Ideal.exp (s j - Finset.univ.sup s)) (∑ k, Ideal.exp (s k - Finset.univ.sup s)) * v j

/-- What the point writes for query `c`, at the first head's half of the row. -/
theorem result_zero (hr : Real x0 x1) (h1 : ∀ j, value x2 0 64 j = 1) (c : Fin 512) (l : Fin 128) (hl : l.val < 64) :
    result i x0 x1 x2 (ix3 0 c l) = attend (masked i x0 x1 0 c) (value x2 0 l) := by
  unfold result
  rw [write_apply, dif_pos hl, trips_zero]
  exact mean ((after_zero i x0 x1 x2 hr c l _ le_rfl).univ (masked_outside i x0 x1 0 c))
    ((after_zero i x0 x1 x2 hr c 64 _ le_rfl).univ (masked_outside i x0 x1 0 c)) h1 (masked_ne_top i x0 x1 hr 0 c)

/-- What the point writes for query `c`, at the second head's half of the row. -/
theorem result_one (hr : Real x0 x1) (h1 : ∀ j, value x2 1 64 j = 1) (c : Fin 512) (l : Fin 128) (hl : ¬ l.val < 64) :
    result i x0 x1 x2 (ix3 0 c l) = attend (masked i x0 x1 1 c) (value x2 1 ⟨l.val - 64, by omega⟩) := by
  unfold result
  rw [write_apply, dif_neg hl, trips_one]
  exact mean ((after_one i x0 x1 x2 hr c _ _ le_rfl).univ (masked_outside i x0 x1 1 c))
    ((after_one i x0 x1 x2 hr c 64 _ le_rfl).univ (masked_outside i x0 x1 1 c)) h1 (masked_ne_top i x0 x1 hr 1 c)

end

end Cert.KernelIdeal.Fox
end
-- ==== Proof.Fox.Reference.lean ====
/-
  The attention reference, read at one entry of its result.
-/
module

public import proofs.«01_k».proof.Proof.Gen.ReferenceIdeal.Read
public import proofs.«01_k».proof.Proof.Fox.Point

@[expose] public section

set_option maxRecDepth 16384

noncomputable section

namespace Cert.ReferenceIdeal.Read

open Cert.ReferenceIdeal Cert.ReferenceIdeal.Gen Idealize.ShloMosaic
open scoped BigOperators

variable (x0 : Vec Ideal S4x8x8192x128 .bf16) (x1 : Vec Ideal S4x8x8192x128 .bf16) (x2 : Vec Ideal S4x8x16x128x512 .bf16)

/-- The score of query `n` against key `j`. -/
def score (b : Fin 4) (h : Fin 8) (n j : Fin 8192) : EReal := ∑ e : Fin 128, x0 (ix4 b h n e) * x1 (ix4 b h j e)

/-- The score, hidden where the key comes after the query. -/
def masked (b : Fin 4) (h : Fin 8) (n j : Fin 8192) : EReal := if j.val ≤ n.val then score x0 x1 b h n j else ⊥

/-- Row `l` of the values. -/
def value (b : Fin 4) (h : Fin 8) (l : Fin 64) (j : Fin 8192) : EReal :=
  x2 (ix5 b h (⟨j.val / 512, by omega⟩ : Fin 16) (⟨l.val, by omega⟩ : Fin 128) (⟨j.val % 512, by omega⟩ : Fin 512))

theorem scores_apply (b : Fin 4) (h : Fin 8) (n j : Fin 8192) : val_main_v6 (F := Ideal) x0 x1 (ix4 b h n j) = score x0 x1 b h n j := by
  pointwise [val_main_v6, val_main_v0, val_main_v1, score]

theorem select_ge (n j : Fin 8192) (a b : EReal) :
    Scalar.select (IntOp.cmpi CmpIPredicate.sge (BitVec.ofNat 32 n.val) (BitVec.ofNat 32 j.val)) a b = if j.val ≤ n.val then a else b := by
  rw [WordCmp.cmpi_sge_ofNat (by omega) (by omega)]
  by_cases h : j.val ≤ n.val <;> simp [Scalar.select, h]

theorem order_apply (n j : Fin 8192) : val_main_v12 (F := Ideal) (ix2 n j)
    = IntOp.cmpi CmpIPredicate.sge (BitVec.ofNat 32 n.val) (BitVec.ofNat 32 j.val) := by
  pointwise [val_main_v12, val_main_v11, val_main_v10, val_main_v9, val_main_v8, val_main_v7]

theorem masked_apply (b : Fin 4) (h : Fin 8) (n j : Fin 8192) : val_main_v13 (F := Ideal) x0 x1 (ix4 b h n j) = masked x0 x1 b h n j := by
  unfold masked
  rw [← select_ge, ← order_apply, ← scores_apply, ← Cert.KernelIdeal.Fox.floor_eq]
  pointwise [val_main_v13, val_main_call0_v0, val_main_call0_v1, val_main_call0_v2, val_main_cst]
  rfl

/-- A maximum over the last of four axes, read at an index. -/
theorem greatest_last {n0 n1 n2 n3 : ℕ} (x : FVec Ideal ⟨4, ![n0, n1, n2, n3]⟩ .f32) (w : BitVec 32) {u : Shape}
    (h : (⟨4, ![n0, n1, n2, n3]⟩ : Shape).ReducesTo [3] ⟨3, ![n0, n1, n2]⟩) (hu : 0 < u.numel) (a : Fin n0) (b : Fin n1) (c : Fin n2) :
    Host.reduce FloatOps.maximumf x (constant (F := Ideal) u .f32 w) h hu (ix3 a b c)
      = Finset.fold max (Ideal.ofBits FTy.f32 w) (fun k => x (ix4 a b c k)) Finset.univ := by
  rw [Host.reduce_eq_fold, Shape.ReducesTo.fold_fiber_r4_a3]
  rfl

theorem greatest_apply (b : Fin 4) (h : Fin 8) (n : Fin 8192) : val_main_v14 (F := Ideal) x0 x1 (ix3 b h n)
    = Finset.fold max (Ideal.ofBits FTy.f32 0xFF800000#32) (masked x0 x1 b h n) Finset.univ := by
  rw [← funext (masked_apply x0 x1 b h n)]
  exact greatest_last _ _ _ _ b h n

/-- The fold of the maximum from minus infinity is the least upper bound. -/
theorem fold_sup {n : ℕ} (f : Fin n → EReal) : max (⊥ : EReal) (Finset.fold max ⊥ f Finset.univ) = Finset.univ.sup f := by
  rw [max_eq_right bot_le]
  rfl

theorem start_apply (i : S4x8x8192.Idx) : val_main_v15 (F := Ideal) i = ⊥ := by
  rw [val_main_v15_apply]
  exact Cert.KernelIdeal.Fox.floor_eq

theorem sup_apply (b : Fin 4) (h : Fin 8) (n : Fin 8192) : val_main_v16 (F := Ideal) x0 x1 (ix3 b h n)
    = Finset.univ.sup (masked x0 x1 b h n) := by
  rw [val_main_v16_apply, greatest_apply, start_apply, Cert.KernelIdeal.Fox.floor_eq]
  exact fold_sup _

theorem exp_apply (b : Fin 4) (h : Fin 8) (n j : Fin 8192) : val_main_v20 (F := Ideal) x0 x1 (ix4 b h n j)
    = Ideal.exp (masked x0 x1 b h n j - Finset.univ.sup (masked x0 x1 b h n)) := by
  rw [← masked_apply, ← sup_apply]
  pointwise [val_main_v20, val_main_v19, val_main_v18, val_main_v17]

theorem weight_apply (b : Fin 4) (h : Fin 8) (n j : Fin 8192) : val_main_v24 (F := Ideal) x0 x1 (ix4 b h n j)
    = Ideal.div (Ideal.exp (masked x0 x1 b h n j - Finset.univ.sup (masked x0 x1 b h n)))
        (∑ k, Ideal.exp (masked x0 x1 b h n k - Finset.univ.sup (masked x0 x1 b h n))) := by
  simp only [← exp_apply]
  pointwise [val_main_v24, val_main_v23, val_main_v22, val_main_v21, val_main_cst_2]

theorem value_apply (b : Fin 4) (h : Fin 8) (j : Fin 8192) (l : Fin 64) : val_main_v5 (F := Ideal) x2 (ix4 b h j l) = value x2 b h l j := by
  pointwise [val_main_v5, val_main_v4, val_main_v3, val_main_v2, value]

theorem mean_apply (b : Fin 4) (h : Fin 8) (n : Fin 8192) (l : Fin 64) : val_main_v25 (F := Ideal) x0 x1 x2 (ix4 b h n l)
    = Cert.KernelIdeal.Fox.attend (masked x0 x1 b h n) (value x2 b h l) := by
  unfold Cert.KernelIdeal.Fox.attend
  simp only [← weight_apply, ← value_apply]
  pointwise [val_main_v25]

theorem result_apply (b : Fin 4) (n : Fin 8192) (d : Fin 512) : val_main_v28 (F := Ideal) x0 x1 x2 (ix3 b n d)
    = Cert.KernelIdeal.Fox.attend (masked x0 x1 b (⟨d.val / 64, by omega⟩ : Fin 8) n)
        (value x2 b (⟨d.val / 64, by omega⟩ : Fin 8) (⟨d.val % 64, by omega⟩ : Fin 64)) := by
  rw [← mean_apply]
  pointwise [val_main_v28, val_main_v27, val_main_v26]

end Cert.ReferenceIdeal.Read
end
-- ==== Proof.Fox.Pre.lean ====
/-
  What the precondition of the attention claim says: the queries and the keys are real numbers, and row 64 of the values
  is one everywhere.
-/
module

public import proofs.«01_k».proof.Proof.Gen.Pre_finite_and_ones
public import proofs.«01_k».proof.Proof.Fox.Softmax
public import Idealize.ShloMosaic.Lib.Pointwise
public import Idealize.ShloMosaic.Lib.Pipeline.ValueKit

@[expose] public section

set_option maxRecDepth 16384

noncomputable section

namespace Cert.Pre_finite_and_ones

open Idealize.ShloMosaic
open scoped BigOperators

variable (q k : Vec Ideal S4x8x8192x128 .bf16) (v : Vec Ideal S4x8x16x128x512 .bf16)

theorem inf_eq : Ideal.ofBits FTy.f32 0x7F800000#32 = ⊤ := by
  simp [Ideal.ofBits, Ideal.ieee]

/-- A value is real. -/
def IsReal (x : EReal) : Prop := x ≠ ⊤ ∧ x ≠ ⊥

/-- A value whose absolute value is below infinity is real. -/
theorem isReal_of_abs {x : EReal} (h : FloatOps.absf (F := Ideal) (φ := .f32) x < Ideal.ofBits FTy.f32 0x7F800000#32) : IsReal x := by
  rw [inf_eq] at h
  constructor <;> rintro rfl <;> simp [FloatOps.absf] at h

theorem fn_apply (b : Fin 4) (h : Fin 8) (n : Fin 8192) (e : Fin 128) : fn (F := Ideal) q k v (ix4 b h n e)
    = IntOp.andi
        (IntOp.andi (BitVec.ofBool (decide (FloatOps.absf (F := Ideal) (φ := .f32) (q (ix4 b h n e)) < Ideal.ofBits FTy.f32 0x7F800000#32)))
          (BitVec.ofBool (decide (FloatOps.absf (F := Ideal) (φ := .f32) (k (ix4 b h n e)) < Ideal.ofBits FTy.f32 0x7F800000#32))))
        (BitVec.ofBool (decide (v (ix5 b h (⟨n.val / 512, by omega⟩ : Fin 16) (64 : Fin 128) (⟨n.val % 512, by omega⟩ : Fin 512)) = 1))) := by
  pointwise [fn]

theorem andi_ofBool (a b c : Bool)
    (h : IntOp.andi (IntOp.andi (BitVec.ofBool a) (BitVec.ofBool b)) (BitVec.ofBool c) = 1#1) : a = true ∧ b = true ∧ c = true := by
  revert h
  cases a <;> cases b <;> cases c <;> decide

variable {q k v}

theorem of_pre (hp : fn (F := Ideal) q k v = fun _ => 1#1) (b : Fin 4) (h : Fin 8) (n : Fin 8192) (e : Fin 128) :
    IsReal (q (ix4 b h n e)) ∧ IsReal (k (ix4 b h n e))
      ∧ v (ix5 b h (⟨n.val / 512, by omega⟩ : Fin 16) (64 : Fin 128) (⟨n.val % 512, by omega⟩ : Fin 512)) = 1 := by
  obtain ⟨h1, h2, h3⟩ := andi_ofBool _ _ _ ((fn_apply q k v b h n e).symm.trans (congrFun hp _))
  exact ⟨isReal_of_abs (of_decide_eq_true h1), isReal_of_abs (of_decide_eq_true h2), of_decide_eq_true h3⟩

/-- A sum of products of real values is real. -/
theorem isReal_sum {n : ℕ} (f g : Fin n → EReal) (hf : ∀ i, IsReal (f i)) (hg : ∀ i, IsReal (g i)) : IsReal (∑ i, f i * g i) := by
  have e : ∑ i, f i * g i = ((∑ i, (f i).toReal * (g i).toReal : ℝ) : EReal) := by
    rw [Cert.Softmax.coe_sum]
    refine Finset.sum_congr rfl fun i _ => ?_
    rw [EReal.coe_mul, EReal.coe_toReal (hf i).1 (hf i).2, EReal.coe_toReal (hg i).1 (hg i).2]
  rw [e]
  exact ⟨EReal.coe_ne_top _, EReal.coe_ne_bot _⟩

end Cert.Pre_finite_and_ones
end
-- ==== Proof.Fox.Value.lean ====
/-
  The attention kernel's output array is the reference's result, over the extended reals.
-/
module

public import proofs.«01_k».proof.Proof.Fox.Frame
public import proofs.«01_k».proof.Proof.Fox.Point
public import proofs.«01_k».proof.Proof.Fox.Reference
public import proofs.«01_k».proof.Proof.Fox.Pre
public import Idealize.ShloMosaic.Lib.Claim

@[expose] public section

set_option maxRecDepth 16384

noncomputable section

namespace Cert.KernelIdeal.Fox

open Cert.KernelIdeal Cert.KernelIdeal.Gen Idealize.ShloMosaic Idealize.ShloMosaic.TcCoe Idealize.SL.Sem
open Cert.Pre_finite_and_ones (IsReal)
open scoped BigOperators

/-- Which block of its array each window holds at a grid point. -/
theorem places : ∀ t : Fin cfg0.N, win0_0.index t = ![t.val / 64, t.val / 16 % 4, t.val % 16, 0]
    ∧ win0_1.index t = ![t.val / 64, t.val / 16 % 4, 0, 0] ∧ win0_2.index t = ![t.val / 64, t.val / 16 % 4, 0, 0, 0]
    ∧ win0_3.index t = ![t.val / 64, t.val % 16, t.val / 16 % 4] ∧ (grid0.coords t 2).val = t.val % 16 ∧ t.val < 256 :=
  (by decide +kernel : ∀ t : Fin grid0.N, _)

variable (m : (ℓ : Loc nD τ sig) → Buf (Elt Ideal) ℓ) (d : Dev nD) (t : Fin cfg0.N)

theorem point_lt : t.val < 256 := (places t).2.2.2.2.2

/-- The point's batch entry. -/
def batch : Fin 4 := ⟨t.val / 64, by have := point_lt t; omega⟩
/-- One of the point's two heads. -/
def head (h : Fin 2) : Fin 8 := ⟨t.val / 16 % 4 * 2 + h.val, by omega⟩
/-- The position of one of the point's queries. -/
def query (c : Fin 512) : Fin 8192 := ⟨t.val % 16 * 512 + c.val, by omega⟩

/-- The queries, keys and values at launch. -/
abbrev Q : Vec Ideal S4x8x8192x128 .bf16 := m ((d : Thread nD τ).loc main_arg0)
abbrev K : Vec Ideal S4x8x8192x128 .bf16 := m ((d : Thread nD τ).loc main_arg1)
abbrev W : Vec Ideal S4x8x16x128x512 .bf16 := m ((d : Thread nD τ).loc main_arg2)

theorem query_block (h : Fin 2) (c : Fin 512) (e : Fin 128) :
    iblk m d 0 t (ix4 0 h c e) = Q m d (ix4 (batch t) (head t h) (query t c) e) := by
  blk_ext [iblk, V, places t] <;> rfl

theorem key_block (h : Fin 2) (j : Fin 8192) (e : Fin 128) :
    iblk m d 1 t (ix4 0 h j e) = K m d (ix4 (batch t) (head t h) j e) := by
  blk_ext [iblk, V, places t] <;> rfl

theorem value_block (h : Fin 2) (b : Fin 16) (r : Fin 128) (x : Fin 512) :
    iblk m d 2 t (ix5 0 h b r x) = W m d (ix5 (batch t) (head t h) b r x) := by
  blk_ext [iblk, V, places t] <;> rfl

/-- The precondition, of the launch's arrays. -/
abbrev Pre : Prop := Cert.Pre_finite_and_ones.fn (F := Ideal) (Q m d) (K m d) (W m d) = fun _ => 1#1

theorem score_block (h : Fin 2) (c : Fin 512) (j : Fin 8192) : score (iblk m d 0 t) (iblk m d 1 t) h c j
    = Cert.ReferenceIdeal.Read.score (Q m d) (K m d) (batch t) (head t h) (query t c) j := by
  refine Finset.sum_congr rfl fun e _ => ?_
  rw [query_block, key_block, mul_comm]

theorem masked_block (h : Fin 2) (c : Fin 512) : masked (grid0.coords t) (iblk m d 0 t) (iblk m d 1 t) h c
    = Cert.ReferenceIdeal.Read.masked (Q m d) (K m d) (batch t) (head t h) (query t c) := by
  funext j
  unfold masked Cert.ReferenceIdeal.Read.masked
  rw [score_block, (places t).2.2.2.2.1]
  exact if_congr (by show _ ↔ j.val ≤ t.val % 16 * 512 + c.val; omega) rfl rfl

theorem value_row (h : Fin 2) (r : Fin 128) (l : Fin 64) (e : r.val = l.val) : value (iblk m d 2 t) h r
    = Cert.ReferenceIdeal.Read.value (W m d) (batch t) (head t h) l := by
  funext j
  unfold value Cert.ReferenceIdeal.Read.value
  rw [value_block]
  exact congrArg (fun r => W m d (ix5 (batch t) (head t h) _ r _)) (Fin.ext e)

variable {m d}

theorem value_one_row (hp : Pre m d) (h : Fin 2) (j : Fin 8192) : value (iblk m d 2 t) h 64 j = 1 := by
  unfold value
  rw [value_block]
  exact (Cert.Pre_finite_and_ones.of_pre hp (batch t) (head t h) j 0).2.2

theorem real_block (hp : Pre m d) : Real (iblk m d 0 t) (iblk m d 1 t) := by
  intro h c j
  rw [score_block]
  exact Cert.Pre_finite_and_ones.isReal_sum _ _
    (fun e => (Cert.Pre_finite_and_ones.of_pre hp (batch t) (head t h) (query t c) e).1)
    (fun e => (Cert.Pre_finite_and_ones.of_pre hp (batch t) (head t h) j e).2.1)

/-- What a point writes is the reference's result at its place. -/
theorem block_apply (hp : Pre m d) (c : Fin 512) (l : Fin 128) : block m d t (ix3 0 c l)
    = Cert.ReferenceIdeal.Read.val_main_v28 (F := Ideal) (Q m d) (K m d) (W m d)
        (ix3 (batch t) (query t c) (⟨t.val / 16 % 4 * 128 + l.val, by omega⟩ : Fin 512)) := by
  rw [Cert.ReferenceIdeal.Read.result_apply]
  unfold block
  by_cases hl : l.val < 64
  · rw [result_zero _ _ _ _ (real_block t hp) (value_one_row t hp 0) c l hl, masked_block,
      value_row m d t 0 l (⟨(t.val / 16 % 4 * 128 + l.val) % 64, by omega⟩ : Fin 64) (by show l.val = (_ + _) % 64; omega)]
    have eh : head t 0 = (⟨(t.val / 16 % 4 * 128 + l.val) / 64, by omega⟩ : Fin 8) :=
      Fin.ext (by show t.val / 16 % 4 * 2 + 0 = (_ + _) / 64; omega)
    rw [eh]
  · rw [result_one _ _ _ _ (real_block t hp) (value_one_row t hp 1) c l hl, masked_block,
      value_row m d t 1 _ (⟨(t.val / 16 % 4 * 128 + l.val) % 64, by omega⟩ : Fin 64) (by show l.val - 64 = (_ + _) % 64; omega)]
    have eh : head t 1 = (⟨(t.val / 16 % 4 * 128 + l.val) / 64, by omega⟩ : Fin 8) :=
      Fin.ext (by show t.val / 16 % 4 * 2 + 1 = (_ + _) / 64; omega)
    rw [eh]

/-- The array after the run is the reference's result. -/
theorem final (hp : Pre m d) : (dats m 0 d).arrAt 3 cfg0.N
    = Cert.ReferenceIdeal.Read.val_main_v28 (F := Ideal) (Q m d) (K m d) (W m d) := by
  refine (dats m 0 d).arrAt_eq_of_covers 3 _ (by decide +kernel) fun t hf y => ?_
  blk_simp
  rw [after_3]
  idx_vars y
  obtain rfl : y0 = 0 := Fin.ext (by have := y0.isLt; omega)
  have hi : (((View.whole main_v0).slice (win0_3.rect t)).emb (ix3 0 y1 y2) : S4x8192x512.Idx)
      = ix3 (batch t) (query t y1) (⟨t.val / 16 % 4 * 128 + y2.val, by omega⟩ : Fin 512) := by
    blk_ext [places t] <;> rfl
  refine Eq.trans ?_ (congrArg _ hi).symm
  exact block_apply t hp y1 y2

end Cert.KernelIdeal.Fox
end
-- ==== Proof.Fox.Agree.lean ====
/-
  The attention claim: from memories that agree on the queries, keys and values, the queries and keys real and row 64
  of the values one, the kernel and the reference end with the same result, over the extended reals.
-/
module

public import proofs.«01_k».proof.Defs
public import proofs.«01_k».proof.Proof.Fox.Value
public import proofs.«01_k».proof.Proof.Gen.ReferenceIdeal.Read
public import proofs.«01_k».proof.Proof.Gen.Kernel
public import proofs.«01_k».proof.Proof.Gen.KernelIdeal
public import proofs.«01_k».proof.Proof.Gen.ReferenceIdeal
public import proofs.«01_k».proof.Proof.Gen.Ffn
public import proofs.«01_k».proof.Proof.Gen.FfnIdeal
public import proofs.«01_k».proof.Proof.Gen.FfnReferenceIdeal
public import proofs.«01_k».proof.Proof.Gen.Pre_finite_and_ones
public import Idealize.ShloMosaic.Lib.Claim

@[expose] public section

set_option maxRecDepth 16384

noncomputable section

namespace Cert.KernelIdeal.Fox

open Cert.KernelIdeal Cert.KernelIdeal.Gen Idealize.ShloMosaic Idealize.ShloMosaic.TcCoe Idealize.SL.Sem

/-- The kernel's run: its output array, and its arguments unchanged. -/
theorem run_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨h.2 c, h.1.1 c⟩) (θ_run_and (frame m g) (output m g))

theorem agree : Cert.algebraic_KernelIdeal_ReferenceIdeal_pre_finite_and_ones := by
  unfold Cert.algebraic_KernelIdeal_ReferenceIdeal_pre_finite_and_ones
  pair_intro
  · run_from (run_values m g)
  · run_from (Cert.ReferenceIdeal.Value.run m' g')
    obtain ⟨h0, h1, h2⟩ := hagree c
    rw [Cert.ReferenceIdeal.Read.val_main_v28_eq, h0, h1, h2]
    exact (final (hpre c)).symm

end Cert.KernelIdeal.Fox

end
-- ==== Proof.Ffn.Block.lean ====
/-
  What the feed-forward kernel writes at one grid point, as a plain function of the blocks it is given.

  The hidden layer is cut into eleven chunks of 256 units.  The kernel normalises its 512 rows once; then each chunk
  gives one product, and the products are added up in order.
-/
module

public import proofs.«01_k».proof.Proof.Gen.FfnIdeal.Value

@[expose] public section

set_option maxRecDepth 16384

noncomputable section

namespace Cert.FfnIdeal.Block

open Cert.FfnIdeal Cert.FfnIdeal.Gen Idealize.ShloMosaic Idealize.ShloMosaic.TcCoe Idealize.SL.Sem

variable {F : FTy → Type} [FloatOps F]

theorem inside_in (j : Fin 11) : ∀ a, (![j.val, 0, 0] : Fin 3 → ℕ) a + (![1, 1024, 256] : Fin 3 → ℕ) a ≤ S11x1024x256.size a := by
  revert j; decide

theorem inside_out (j : Fin 11) : ∀ a, (![j.val, 0, 0] : Fin 3 → ℕ) a + (![1, 256, 1024] : Fin 3 → ℕ) a ≤ S11x256x1024.size a := by
  revert j; decide

/-- Chunk `j` of one of the two first-layer weights. -/
def chunkIn (x : Vec F S11x1024x256 .bf16) (j : Fin 11) : Vec F S1x1024x256 .bf16 :=
  View.ld x (Rect.unit ![j.val, 0, 0] ![1, 1024, 256] (inside_in j))

/-- Chunk `j` of the second-layer weight. -/
def chunkOut (x : Vec F S11x256x1024 .bf16) (j : Fin 11) : Vec F S1x256x1024 .bf16 :=
  View.ld x (Rect.unit ![j.val, 0, 0] ![1, 256, 1024] (inside_out j))

/-- The normalised rows times one chunk of a first-layer weight. -/
def project (xn : FVec F S512x1024 .bf16) (g : Vec F S1x1024x256 .bf16) : FVec F S512x256 .f32 :=
  matmul dot_S512x1024_S1024x256_S512x256_1_0_0_1_n_n none xn (shapeCast S1024x256 g shapeCasts_S1x1024x256_S1024x256)
    (constant S512x256 .f32 0x00000000#32)

/-- The gated hidden units of one chunk. -/
def hidden (a b : FVec F S512x256 .f32) : FVec F S512x256 .bf16 :=
  truncf .bf16 (mulf (mulf a (divf (broadcast S512x256 (Scalar.ofBits .f32 0x3F800000#32))
    (addf (broadcast S512x256 (Scalar.ofBits .f32 0x3F800000#32))
      (exp (subf (broadcast S512x256 (Scalar.ofBits .f32 0x00000000#32)) a))))) b) bitsLt_bf16_f32

/-- What one chunk adds to the result. -/
def tile (xn : FVec F S512x1024 .bf16) (g u : Vec F S1x1024x256 .bf16) (o : Vec F S1x256x1024 .bf16) : FVec F S512x1024 .f32 :=
  matmul dot_S512x256_S256x1024_S512x1024_1_0_0_1_n_n none (hidden (project xn g) (project xn u))
    (shapeCast S256x1024 o shapeCasts_S1x256x1024_S256x1024) (constant S512x1024 .f32 0x00000000#32)

section

variable (xn : FVec F S512x1024 .bf16) (x2 x3 : Vec F S11x1024x256 .bf16) (x4 : Vec F S11x256x1024 .bf16)

/-- Chunk `j`'s contribution, from the three whole weights. -/
def term (j : Fin 11) : FVec F S512x1024 .f32 := tile xn (chunkIn x2 j) (chunkIn x3 j) (chunkOut x4 j)

/-- The running sum after chunk `j`. -/
def acc : (j : ℕ) → j < 11 → FVec F S512x1024 .f32
  | 0, h => term xn x2 x3 x4 ⟨0, h⟩
  | j + 1, h => addf (acc j (Nat.lt_of_succ_lt h)) (term xn x2 x3 x4 ⟨j + 1, h⟩)

end

theorem hz : (![0, 0] : Fin 2 → Nat) = fun _ => 0 := funext fun a => by fin_cases a <;> rfl

/-- The block a grid point writes: the rows plus half the sum over all eleven chunks. -/
theorem out_eq (c : Dev nD) (i : grid0.Coords) (a1 : Memref sig .tc .vmem S512x1024 .f32) (h1 : a1.IsWhole)
    (a2 : Memref sig .tc .vmem S1x1024 .f32) (h2 : a2.IsWhole) (a3 : Memref sig .tc .vmem S11x1024x256 .bf16) (h3 : a3.IsWhole)
    (a4 : Memref sig .tc .vmem S11x1024x256 .bf16) (h4 : a4.IsWhole) (a5 : Memref sig .tc .vmem S11x256x1024 .bf16) (h5 : a5.IsWhole)
    (a6 : Memref sig .tc .vmem S512x1024 .f32) (h6 : a6.IsWhole) (a7 : Memref sig .tc .vmem S512x1024 .f32) (h7 : a7.IsWhole)
    (x0 : Vec F S512x1024 .f32) (x1 : Vec F S1x1024 .f32) (x2 x3 : Vec F S11x1024x256 .bf16) (x4 : Vec F S11x256x1024 .bf16) :
    out0_A_5 c i a1 h1 a2 h2 a3 h3 a4 h4 a5 h5 a6 h6 a7 h7 x0 x1 x2 x3 x4
      = k0_pay2 x0 (acc (k0_pay3 x0 x1) x2 x3 x4 10 (by decide)) := by
  unfold out0_A_5
  rw [View.read_writes_eq_canon _ _ _ (cover0_A_5 c i a1 h1 a2 h2 a3 h3 a4 h4 a5 h5 a6 h6 a7 h7 x0 x1 x2 x3 x4)]
  unfold kernelRun0_A
  dsimp only
  sl_unfold_run_names
  rw [View.canon_unit_zero hz]
  simp only [View.readAt_eq_ld, h1.read_unread, h2.read_unread, h3.read_unread, h4.read_unread, h5.read_unread,
    View.ld_unit_zero (S := S512x1024) hz, View.ld_unit_zero (S := S1x1024) hz, View.readCov_cons_toLoadRect]
  unfold k0_pay1 k0_pay4 k0_pay5 k0_pay6 k0_pay7 k0_pay8 k0_pay9 k0_pay10 k0_pay11 k0_pay12 k0_pay13 k0_pay14 k0_pay15
    k0_pay16 k0_pay17 k0_pay18 k0_pay19 k0_pay20 k0_pay21 k0_pay22 k0_pay23 k0_pay24 k0_pay25 k0_pay26
  simp only [shapeCast_self]
  rfl

end Cert.FfnIdeal.Block

end
-- ==== Proof.Ffn.Value.lean ====
/-
  The feed-forward kernel, element by element, over the extended reals, against its reference.
-/
module

public import proofs.«01_k».proof.Proof.Ffn.Block
public import proofs.«01_k».proof.Proof.Gen.FfnReferenceIdeal.Read
public import Idealize.ShloMosaic.Lib.Pointwise
public import Idealize.ShloMosaic.Lib.Pipeline.ValueKit
public import Idealize.ShloMosaic.Lib.Claim

@[expose] public section

set_option maxRecDepth 16384

noncomputable section

namespace Cert.FfnIdeal.Block

open Cert.FfnIdeal Cert.FfnIdeal.Gen Idealize.ShloMosaic Idealize.ShloMosaic.TcCoe Idealize.SL.Sem
open scoped BigOperators

/-- One element of a row normalised by its root mean square and scaled. -/
def normed (x n : Fin 1024 → EReal) (e : Fin 1024) : EReal :=
  x e * Ideal.rsqrt (Ideal.div (∑ k, x k * x k) (Ideal.ofBits FTy.f32 1149239296#32) + Ideal.ofBits FTy.f32 897988541#32) * n e

/-- A hidden unit: its first projection through `z / (1 + exp (-z))`, times its second projection. -/
def gate (a b : EReal) : EReal := a * Ideal.div 1 (1 + Ideal.exp (-a)) * b

/-- One element of the layer's output, from its row, the scale, one row's view of the weights and the output column. -/
def ffn (x n : Fin 1024 → EReal) (G U : Fin 2816 → Fin 1024 → EReal) (O : Fin 2816 → EReal) (d : Fin 1024) : EReal :=
  x d + Ideal.ofBits FTy.f32 1056964608#32 *
    ∑ k, gate (∑ e, normed x n e * G k e) (∑ e, normed x n e * U k e) * O k

theorem ffn_congr {x x' n n' : Fin 1024 → EReal} {G G' U U' : Fin 2816 → Fin 1024 → EReal} {O O' : Fin 2816 → EReal}
    (hx : ∀ e, x e = x' e) (hn : ∀ e, n e = n' e) (hG : ∀ k e, G k e = G' k e) (hU : ∀ k e, U k e = U' k e)
    (hO : ∀ k, O k = O' k) (d : Fin 1024) : ffn x n G U O d = ffn x' n' G' U' O' d := by
  rw [funext hx, funext hn, funext fun k => funext (hG k), funext fun k => funext (hU k), funext hO]

theorem norm_apply (x0 : Vec Ideal S512x1024 .f32) (x1 : Vec Ideal S1x1024 .f32) (r : Fin 512) (e : Fin 1024) :
    k0_pay3 (F := Ideal) x0 x1 (ix2 r e) = normed (fun e => x0 (ix2 r e)) (fun e => x1 (ix2 0 e)) e := by
  pointwise [k0_pay3, normed]

theorem term_apply (xn : FVec Ideal S512x1024 .bf16) (x2 x3 : Vec Ideal S11x1024x256 .bf16) (x4 : Vec Ideal S11x256x1024 .bf16)
    (j : Fin 11) (r : Fin 512) (d : Fin 1024) :
    term (F := Ideal) xn x2 x3 x4 j (ix2 r d)
      = ∑ f : Fin 256, gate (∑ e : Fin 1024, xn (ix2 r e) * x2 (ix3 j e f)) (∑ e : Fin 1024, xn (ix2 r e) * x3 (ix3 j e f)) * x4 (ix3 j f d) := by
  simp only [gate, ← zero_sub]
  pointwise [term, tile, hidden, project, chunkIn, chunkOut]

theorem acc_apply (xn : FVec Ideal S512x1024 .bf16) (x2 x3 : Vec Ideal S11x1024x256 .bf16) (x4 : Vec Ideal S11x256x1024 .bf16)
    (i : S512x1024.Idx) (n : ℕ) (h : n < 11) :
    acc (F := Ideal) xn x2 x3 x4 n h i = ∑ j : Fin (n + 1), term (F := Ideal) xn x2 x3 x4 ⟨j.val, by omega⟩ i := by
  induction n with
  | zero => simp [acc]
  | succ n ih =>
    rw [Fin.sum_univ_castSucc]
    exact congrArg (· + _) (ih (by omega))

/-- The kernel's block at an index: the layer over the weights as the kernel holds them, hidden unit `k` being unit
    `k % 256` of chunk `k / 256`. -/
theorem out_apply (x0 : Vec Ideal S512x1024 .f32) (x1 : Vec Ideal S1x1024 .f32) (x2 x3 : Vec Ideal S11x1024x256 .bf16)
    (x4 : Vec Ideal S11x256x1024 .bf16) (r : Fin 512) (d : Fin 1024) :
    k0_pay2 (F := Ideal) x0 (acc (k0_pay3 x0 x1) x2 x3 x4 10 (by decide)) (ix2 r d)
      = ffn (fun e => x0 (ix2 r e)) (fun e => x1 (ix2 0 e))
          (fun k e => x2 (ix3 (⟨k.val / 256, by omega⟩ : Fin 11) e (⟨k.val % 256, by omega⟩ : Fin 256)))
          (fun k e => x3 (ix3 (⟨k.val / 256, by omega⟩ : Fin 11) e (⟨k.val % 256, by omega⟩ : Fin 256)))
          (fun k => x4 (ix3 (⟨k.val / 256, by omega⟩ : Fin 11) (⟨k.val % 256, by omega⟩ : Fin 256) d)) d := by
  generalize ha : acc (F := Ideal) (k0_pay3 x0 x1) x2 x3 x4 10 (by decide) = a
  unfold ffn
  pointwise [k0_pay2]
  congr 2
  rw [← ha, acc_apply]
  symm
  refine (Fin.sum_divmod_congr (A := 11) (S := 256) fun t ha hs => ?_ : _ = ∑ j : Fin 11, ∑ f : Fin 256,
    gate (∑ e : Fin 1024, normed (fun e => x0 (ix2 r e)) (fun e => x1 (ix2 0 e)) e * x2 (ix3 j e f))
      (∑ e : Fin 1024, normed (fun e => x0 (ix2 r e)) (fun e => x1 (ix2 0 e)) e * x3 (ix3 j e f)) * x4 (ix3 j f d)).trans ?_
  · rfl
  · refine Finset.sum_congr rfl fun j _ => ?_
    rw [term_apply]
    simp only [norm_apply]

end Cert.FfnIdeal.Block

namespace Cert.FfnReferenceIdeal.Read

open Cert.FfnReferenceIdeal Cert.FfnReferenceIdeal.Gen Idealize.ShloMosaic Idealize.ShloMosaic.TcCoe Idealize.SL.Sem
open scoped BigOperators

/-- The reference at an index. -/
theorem result_apply (x0 : FVec Ideal S32768x1024 .f32) (x1 : FVec Ideal S1024 .f32) (x2 : FVec Ideal S1024x5632 .f32)
    (x3 : FVec Ideal S2816x1024 .f32) (r : Fin 32768) (d : Fin 1024) :
    val_main_v21 (F := Ideal) x0 x1 x2 x3 (ix2 r d)
      = Cert.FfnIdeal.Block.ffn (fun e => x0 (ix2 r e)) (fun e => x1 (ix1 e))
          (fun k e => x2 (ix2 e (⟨k.val, by omega⟩ : Fin 5632))) (fun k e => x2 (ix2 e (⟨2816 + k.val, by omega⟩ : Fin 5632)))
          (fun k => x3 (ix2 k d)) d := by
  unfold Cert.FfnIdeal.Block.ffn Cert.FfnIdeal.Block.gate Cert.FfnIdeal.Block.normed
  rw [← val_main_v21_eq]
  pointwise

end Cert.FfnReferenceIdeal.Read

namespace Cert.FfnIdeal.Block

open Cert.FfnIdeal Cert.FfnIdeal.Gen Idealize.ShloMosaic Idealize.ShloMosaic.TcCoe Idealize.SL.Sem

variable (m : (ℓ : Loc nD τ sig) → Buf (Elt Ideal) ℓ)

/-- Which block of its array each window holds at a grid point. -/
theorem places : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_5.index t = ![t.val, 0] ∧ t.val < 64 :=
  (by decide +kernel : ∀ t : Fin grid0.N, _)

/-- The array after the run is the reference's result. -/
theorem final (c : Dev nD) : (dats m 0 c).arrAt 5 cfg0.N
    = Cert.FfnReferenceIdeal.Read.val_main_v21 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  rw [out_eq]
  idx_vars y
  have ht := (places t).2.2.2.2.2.2
  have hi : (((View.whole main_v11).slice (win0_5.rect t)).emb (ix2 y0 y1) : S32768x1024.Idx)
      = ix2 (⟨t.val * 512 + y0.val, by omega⟩ : Fin 32768) y1 := by
    blk_ext [places t]
  refine Eq.trans ?_ (congrArg _ hi).symm
  refine (out_apply _ _ _ _ _ y0 y1).trans (Eq.trans ?_ (Cert.FfnReferenceIdeal.Read.result_apply _ _ _ _ _ _).symm)
  refine ffn_congr (fun e => ?_) (fun e => ?_) (fun k e => ?_) (fun k e => ?_) (fun k => ?_) y1
  · blk_ext [iblk, V, places t]
  · show iblk m c 1 t (ix2 0 e) = _
    blk_simp [iblk]
    entry_read
    pointwise
    blk_ext [places t]
  · show iblk m c 2 t (ix3 _ _ _) = _
    blk_simp [iblk]
    entry_read
    pointwise
    blk_ext [places t]
  · show iblk m c 3 t (ix3 _ _ _) = _
    blk_simp [iblk]
    entry_read
    pointwise
    blk_ext [places t]
  · show iblk m c 4 t (ix3 _ _ _) = _
    blk_simp [iblk]
    entry_read
    pointwise
    blk_ext [places t]

end Cert.FfnIdeal.Block

end
-- ==== Proof.Ffn.Agree.lean ====
/-
  The feed-forward claim: from memories that agree on the four arguments, the kernel and the reference end with the
  same result, over the extended reals.
-/
module

public import proofs.«01_k».proof.Defs
public import proofs.«01_k».proof.Proof.Ffn.Value
public import proofs.«01_k».proof.Proof.Gen.FfnIdeal.Value
public import proofs.«01_k».proof.Proof.Gen.FfnReferenceIdeal.Read
public import proofs.«01_k».proof.Proof.Gen.Kernel
public import proofs.«01_k».proof.Proof.Gen.KernelIdeal
public import proofs.«01_k».proof.Proof.Gen.ReferenceIdeal
public import proofs.«01_k».proof.Proof.Gen.Ffn
public import proofs.«01_k».proof.Proof.Gen.Pre_finite_and_ones
public import Idealize.ShloMosaic.Lib.Claim

@[expose] public section

noncomputable section

namespace Cert.Ffn

open Idealize.ShloMosaic Idealize.SL.Sem

theorem agree : Cert.algebraic_FfnIdeal_FfnReferenceIdeal := by
  unfold Cert.algebraic_FfnIdeal_FfnReferenceIdeal
  pair_intro
  · run_from (Cert.FfnIdeal.Value.run_blocks m g)
  · run_from (Cert.FfnReferenceIdeal.Value.run m' g')
    exact (Cert.FfnReferenceIdeal.Read.val_main_v21_eq _ _ _ _).trans (Cert.FfnIdeal.Block.final m c).symm

end Cert.Ffn

end
-- ==== Proof.MixOut.Value.lean ====
/-
  The output projection, element by element, over the extended reals.

  The kernel adds to each row three products, one per mixer, each with its own rows of the weight; the reference lays the
  three mixers' outputs side by side and takes one product.  The one sum over 1024 lanes is the three sums in order.
-/
module

public import proofs.«01_k».proof.Proof.Gen.MixOutIdeal.Value
public import proofs.«01_k».proof.Proof.Gen.MixOutReferenceIdeal.Read
public import Idealize.ShloMosaic.Lib.Pointwise
public import Idealize.ShloMosaic.Lib.Pipeline.ValueKit
public import Idealize.ShloMosaic.Lib.Claim

@[expose] public section

set_option maxRecDepth 16384

noncomputable section

namespace Cert.MixOutIdeal.Block

open Cert.MixOutIdeal Cert.MixOutIdeal.Gen Idealize.ShloMosaic Idealize.ShloMosaic.TcCoe Idealize.SL.Sem
open scoped BigOperators

/-- One element of the result: the old value, then what the convolution, the recurrence and the attention add. -/
def mixed (x : EReal) (a : Fin 256 → EReal) (A : Fin 256 → EReal) (b B : Fin 256 → EReal) (f W : Fin 512 → EReal) : EReal :=
  x + ∑ k, a k * A k + ∑ k, b k * B k + ∑ k, f k * W k

theorem mixed_congr {x x' : EReal} {a a' A A' b b' B B' : Fin 256 → EReal} {f f' W W' : Fin 512 → EReal} (hx : x = x')
    (ha : ∀ k, a k = a' k) (hA : ∀ k, A k = A' k) (hb : ∀ k, b k = b' k) (hB : ∀ k, B k = B' k) (hf : ∀ k, f k = f' k)
    (hW : ∀ k, W k = W' k) : mixed x a A b B f W = mixed x' a' A' b' B' f' W' := by
  rw [hx, funext ha, funext hA, funext hb, funext hB, funext hf, funext hW]

/-- A sum over 1024 lanes, by the three mixers' lanes. -/
theorem sum_lanes (g : Fin 1024 → EReal) :
    ∑ k, g k = ∑ k : Fin 256, g ⟨k.val, by omega⟩ + ∑ k : Fin 256, g ⟨256 + k.val, by omega⟩
      + ∑ k : Fin 512, g ⟨512 + k.val, by omega⟩ := by
  refine (Fin.sum_univ_add (a := 512) (b := 512) g).trans (congrArg₂ (· + ·) ?_ rfl)
  exact Fin.sum_univ_add (a := 256) (b := 256) fun k => g (Fin.castAdd 512 k)

theorem zeros : (![0, 0] : Fin 2 → Nat) = fun _ => 0 := funext fun a => by fin_cases a <;> rfl

/-- The block a grid point writes, at an index. -/
theorem out_apply (x0 : Vec Ideal S512x1024 .f32) (x1 x2 : Vec Ideal S512x256 .bf16) (x3 : Vec Ideal S512x512 .bf16)
    (x4 x5 : Vec Ideal S256x1024 .bf16) (x6 : Vec Ideal S512x1024 .bf16) (r : Fin 512) (d : Fin 1024) :
    out0_7 (F := Ideal) x0 x1 x2 x3 x4 x5 x6 (ix2 r d)
      = mixed (x0 (ix2 r d)) (fun k => x1 (ix2 r k)) (fun k => x4 (ix2 k d)) (fun k => x2 (ix2 r k)) (fun k => x5 (ix2 k d))
          (fun k => x3 (ix2 r k)) (fun k => x6 (ix2 k d)) := by
  unfold out0_7 mixed
  rw [View.canon_unit_zero zeros, View.ld_unit_zero (S := S512x1024) zeros, View.ld_unit_zero (S := S512x256) zeros,
    View.ld_unit_zero (S := S256x1024) zeros, View.ld_unit_zero (S := S512x256) zeros, View.ld_unit_zero (S := S256x1024) zeros,
    View.ld_unit_zero (S := S512x512) zeros, View.ld_unit_zero (S := S512x1024) zeros]
  pointwise [k0_pay1]

end Cert.MixOutIdeal.Block

namespace Cert.MixOutReferenceIdeal.Read

open Cert.MixOutReferenceIdeal Cert.MixOutReferenceIdeal.Gen Idealize.ShloMosaic Idealize.ShloMosaic.TcCoe Idealize.SL.Sem
open scoped BigOperators

section

variable (x1 x2 : FVec Ideal S32768x256 .bf16) (x3 : FVec Ideal S32768x512 .bf16) (r : Fin 32768)

/-- The first 256 lanes of the mixers' outputs side by side. -/
theorem conv_lane (k : Fin 256) : val_main_v3 (F := Ideal) x1 x2 x3 (ix2 r (⟨k.val, by omega⟩ : Fin 1024)) = x1 (ix2 r k) := by
  unfold val_main_v3 val_main_v0 val_main_v1 val_main_v2
  pointwise

/-- The next 256 lanes. -/
theorem hgrn_lane (k : Fin 256) :
    val_main_v3 (F := Ideal) x1 x2 x3 (ix2 r (⟨256 + k.val, by omega⟩ : Fin 1024)) = x2 (ix2 r k) := by
  unfold val_main_v3 val_main_v0 val_main_v1 val_main_v2
  pointwise

/-- The last 512 lanes. -/
theorem fox_lane (k : Fin 512) :
    val_main_v3 (F := Ideal) x1 x2 x3 (ix2 r (⟨512 + k.val, by omega⟩ : Fin 1024)) = x3 (ix2 r k) := by
  unfold val_main_v3 val_main_v0 val_main_v1 val_main_v2
  pointwise
  rw [dif_neg (by omega), dif_neg (by omega)]
  exact congrArg (fun l => x3 (ix2 r l)) (Fin.ext (by show 512 + k.val - 256 - 256 = k.val; omega))

end

/-- The reference at an index. -/
theorem result_apply (x0 : FVec Ideal S32768x1024 .f32) (x1 x2 : FVec Ideal S32768x256 .bf16) (x3 : FVec Ideal S32768x512 .bf16)
    (x4 : FVec Ideal S1024x1024 .f32) (r : Fin 32768) (d : Fin 1024) :
    val_main_v5 (F := Ideal) x0 x1 x2 x3 x4 (ix2 r d)
      = Cert.MixOutIdeal.Block.mixed (x0 (ix2 r d))
          (fun k => x1 (ix2 r k)) (fun k => x4 (ix2 (⟨k.val, by omega⟩ : Fin 1024) d))
          (fun k => x2 (ix2 r k)) (fun k => x4 (ix2 (⟨256 + k.val, by omega⟩ : Fin 1024) d))
          (fun k => x3 (ix2 r k)) (fun k => x4 (ix2 (⟨512 + k.val, by omega⟩ : Fin 1024) d)) := by
  have hl : ∀ k : Fin 1024, lidx_main_v4 (ix2 r d) k = ix2 r k := fun k => funext fun a => by fin_cases a <;> rfl
  have hr : ∀ k : Fin 1024, ridx_main_v4 (ix2 r d) k = ix2 k d := fun k => funext fun a => by fin_cases a <;> rfl
  rw [val_main_v5_apply, val_main_v4_apply]
  simp only [hl, hr]
  unfold Cert.MixOutIdeal.Block.mixed
  refine (congrArg (x0 (ix2 r d) + ·) (Cert.MixOutIdeal.Block.sum_lanes _)).trans ?_
  simp only [conv_lane, hgrn_lane, fox_lane, add_assoc]

end Cert.MixOutReferenceIdeal.Read

namespace Cert.MixOutIdeal.Block

open Cert.MixOutIdeal Cert.MixOutIdeal.Gen Idealize.ShloMosaic Idealize.ShloMosaic.TcCoe Idealize.SL.Sem

variable (m : (ℓ : Loc nD τ sig) → Buf (Elt Ideal) ℓ)

/-- Which block of its array each window holds at a grid point. -/
theorem places : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ t.val < 64 :=
  (by decide +kernel : ∀ t : Fin grid0.N, _)

/-- The array after the run is the reference's result. -/
theorem final (c : Dev nD) : (dats m 0 c).arrAt 7 cfg0.N
    = Cert.MixOutReferenceIdeal.Read.val_main_v5 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  idx_vars y
  have ht := (places t).2.2.2.2.2.2.2.2
  have hi : (((View.whole main_v4).slice (win0_7.rect t)).emb (ix2 y0 y1) : S32768x1024.Idx)
      = ix2 (⟨t.val * 512 + y0.val, by omega⟩ : Fin 32768) y1 := by
    blk_ext [places t]
  refine Eq.trans ?_ (congrArg _ hi).symm
  refine (out_apply _ _ _ _ _ _ _ y0 y1).trans (Eq.trans ?_ (Cert.MixOutReferenceIdeal.Read.result_apply _ _ _ _ _ _ _).symm)
  refine mixed_congr ?_ (fun k => ?_) (fun k => ?_) (fun k => ?_) (fun k => ?_) (fun k => ?_) (fun k => ?_)
  · blk_ext [iblk, V, places t]
  · blk_ext [iblk, V, places t]
  · show iblk m c 4 t (ix2 _ _) = _
    blk_simp [iblk]
    entry_read
    pointwise
    blk_ext [places t]
  · blk_ext [iblk, V, places t]
  · show iblk m c 5 t (ix2 _ _) = _
    blk_simp [iblk]
    entry_read
    pointwise
    blk_ext [places t]
  · blk_ext [iblk, V, places t]
  · show iblk m c 6 t (ix2 _ _) = _
    blk_simp [iblk]
    entry_read
    pointwise
    blk_ext [places t]

end Cert.MixOutIdeal.Block

end
-- ==== Proof.MixOut.Agree.lean ====
/-
  The output projection's claim: from memories that agree on the five arguments, the kernel and the reference end with
  the same result, over the extended reals.
-/
module

public import proofs.«01_k».proof.Defs
public import proofs.«01_k».proof.Proof.MixOut.Value
public import proofs.«01_k».proof.Proof.Gen.MixOutIdeal.Value
public import proofs.«01_k».proof.Proof.Gen.MixOutReferenceIdeal.Read
public import Idealize.ShloMosaic.Lib.Claim

@[expose] public section

set_option maxRecDepth 16384

noncomputable section

namespace Cert.MixOut

open Idealize.ShloMosaic Idealize.SL.Sem

theorem agree : Cert.algebraic_MixOutIdeal_MixOutReferenceIdeal := by
  unfold Cert.algebraic_MixOutIdeal_MixOutReferenceIdeal
  pair_intro
  · run_from (Cert.MixOutIdeal.Value.run_blocks m g)
  · run_from (Cert.MixOutReferenceIdeal.Value.run m' g')
    obtain ⟨-, h1, h2, h3, -⟩ := hagree c
    rw [Cert.MixOutReferenceIdeal.Read.val_main_v5_eq, h1, h2, h3]
    exact (Cert.MixOutIdeal.Block.final m c).symm

end Cert.MixOut

end
-- ==== Proof.MixIn.KernelFrame.lean ====
/-
  The input mixer at machine formats: it runs to the end, its arguments end unchanged and every counter ends at zero.
  Nothing is said here of what it writes.
-/
module

public import proofs.«01_k».proof.Proof.Gen.MixIn.Frame.Runs
public import Idealize.ShloMosaic.Lib.WholeRead
public import Idealize.ShloMosaic.Lib.Claim
public import Idealize.ShloMosaic.Lib.ValueIdx
public import Idealize.ShloMosaic.Lib.Pipeline.FrameBody

@[expose] public section

set_option maxRecDepth 16384

noncomputable section

namespace Cert.MixIn.Block

open Cert.MixIn Cert.MixIn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 16000000 in
/-- The body at one grid point: the inputs as they were, everything else at some contents. -/
theorem body (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x768 .bf16) (harg4 : arg4.IsWhole)
    (arg5 : Memref sig .tc .vmem S8x256 .f32) (harg5 : arg5.IsWhole)
    (arg6 : Memref sig .tc .vmem S1024x1024 .bf16) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x128 .bf16) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S512x1536 .bf16) (harg14 : arg14.IsWhole)
    (arg15 : Memref sig .tc .vmem S384x1024 .bf16) (harg15 : arg15.IsWhole)
    (arg16 : Memref sig .tc .vmem S384x1024 .bf16) (harg16 : arg16.IsWhole)
    (arg17 : Memref sig .tc .vmem S1x1024 .f32) (harg17 : arg17.IsWhole)
    (arg18 : Memref sig .tc .vmem S1x1024 .f32) (harg18 : arg18.IsWhole)
    (arg19 : Memref sig .tc .vmem S1x512x256 .bf16) (harg19 : arg19.IsWhole)
    (arg20 : Memref sig .tc .vmem S1x512x1024 .f32) (harg20 : arg20.IsWhole)
    (arg21 : Memref sig .tc .vmem S1x8x512x128 .bf16) (harg21 : arg21.IsWhole)
    (arg22 : Memref sig .tc .vmem S1x8x512x128 .bf16) (harg22 : arg22.IsWhole)
    (arg23 : Memref sig .tc .vmem S1x8x1x128x512 .bf16) (harg23 : arg23.IsWhole)
    (arg24 : Memref sig .tc .vmem S520x256 .f32) (harg24 : arg24.IsWhole)
    (arg25 : Memref sig .tc .vmem S1x128 .f32) (harg25 : arg25.IsWhole)
    (x0 : Vec F S1x512x1024 .f32) (x1 : Vec F S1x1024 .f32) (x2 : Vec F S1024x768 .bf16)
    (x3 : Vec F S8x256 .f32) (x4 : Vec F S1024x1024 .bf16) (x5 : Vec F S1024x1024 .bf16)
    (x6 : Vec F S1024x1024 .bf16) (x7 : Vec F S1024x1024 .bf16) (x8 : Vec F S1024x128 .bf16)
    (x9 : Vec F S1x128 .f32) (x10 : Vec F S1x128 .f32) (x11 : Vec F S1x128 .f32) (x12 : Vec F S512x1536 .bf16)
    (x13 : Vec F S384x1024 .bf16) (x14 : Vec F S384x1024 .bf16) (x15 : Vec F S1x1024 .f32)
    (x16 : Vec F S1x1024 .f32)
    (E : Set ℕ) (K : PUnit → sProp 𝕄) :
    iprop(owns (c : Thread nD τ) arg2 fullShare x0 ∗ owns (c : Thread nD τ) arg3 fullShare x1 ∗
        owns (c : Thread nD τ) arg4 fullShare x2 ∗ owns (c : Thread nD τ) arg5 fullShare x3 ∗
        owns (c : Thread nD τ) arg6 fullShare x4 ∗ owns (c : Thread nD τ) arg7 fullShare x5 ∗
        owns (c : Thread nD τ) arg8 fullShare x6 ∗ owns (c : Thread nD τ) arg9 fullShare x7 ∗
        owns (c : Thread nD τ) arg10 fullShare x8 ∗ owns (c : Thread nD τ) arg11 fullShare x9 ∗
        owns (c : Thread nD τ) arg12 fullShare x10 ∗ owns (c : Thread nD τ) arg13 fullShare x11 ∗
        owns (c : Thread nD τ) arg14 fullShare x12 ∗ owns (c : Thread nD τ) arg15 fullShare x13 ∗
        owns (c : Thread nD τ) arg16 fullShare x14 ∗ owns (c : Thread nD τ) arg17 fullShare x15 ∗
        owns (c : Thread nD τ) arg18 fullShare x16 ∗ (∃ d, owns (c : Thread nD τ) arg19 fullShare d) ∗
        (∃ d, owns (c : Thread nD τ) arg20 fullShare d) ∗ (∃ d, owns (c : Thread nD τ) arg21 fullShare d) ∗
        (∃ d, owns (c : Thread nD τ) arg22 fullShare d) ∗ (∃ d, owns (c : Thread nD τ) arg23 fullShare d) ∗
        (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗
            owns (c : Thread nD τ) arg4 fullShare x2 ∗ owns (c : Thread nD τ) arg5 fullShare x3 ∗
            owns (c : Thread nD τ) arg6 fullShare x4 ∗ owns (c : Thread nD τ) arg7 fullShare x5 ∗
            owns (c : Thread nD τ) arg8 fullShare x6 ∗ owns (c : Thread nD τ) arg9 fullShare x7 ∗
            owns (c : Thread nD τ) arg10 fullShare x8 ∗ owns (c : Thread nD τ) arg11 fullShare x9 ∗
            owns (c : Thread nD τ) arg12 fullShare x10 ∗ owns (c : Thread nD τ) arg13 fullShare x11 ∗
            owns (c : Thread nD τ) arg14 fullShare x12 ∗ owns (c : Thread nD τ) arg15 fullShare x13 ∗
            owns (c : Thread nD τ) arg16 fullShare x14 ∗ owns (c : Thread nD τ) arg17 fullShare x15 ∗
            owns (c : Thread nD τ) arg18 fullShare x16 ∗ (∃ d, owns (c : Thread nD τ) arg19 fullShare d) ∗
            (∃ d, owns (c : Thread nD τ) arg20 fullShare d) ∗ (∃ d, owns (c : Thread nD τ) arg21 fullShare d) ∗
            (∃ d, owns (c : Thread nD τ) arg22 fullShare d) ∗ (∃ d, owns (c : Thread nD τ) arg23 fullShare d) ∗
            (∃ d, owns (c : Thread nD τ) arg24 fullShare d) ∗ (∃ d, owns (c : Thread nD τ) arg25 fullShare d)) -∗ K ⟨⟩))
      ⊢ wp Idealize.ShloMosaic.frame (wpE (defs₀ (F := F)) Variants.none c none) E
        (cc0_mix_in i arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17
        arg18 harg18 arg19 harg19 arg20 harg20 arg21 harg21 arg22 harg22 arg23 harg23 arg24 harg24 arg25 harg25) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%d17, %f17, -, H17⟩, ⟨%d18, %f18, -, H18⟩, ⟨%d19, %f19, -, H19⟩, ⟨%d20, %f20, -, H20⟩,
    ⟨%d21, %f21, -, H21⟩, ⟨%d22, %f22, -, H22⟩, ⟨%d23, %f23, -, H23⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16
  simp only [cc0_mix_in_eq_skeleton]; unfold cc0_mix_in_skel
  simp only [
    k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton]
  by_cases hc : cond0_0 i
  all_goals
    sl_exec (disch := first | sl_exact hc)
    sl_step
    iapply Hk
    isplitl [H0]
    · iexists _; isplitr
      · ipureintro; exact harg2.read_unread _
      iexact H0
    isplitl [H1]
    · iexists _; isplitr
      · ipureintro; exact harg3.read_unread _
      iexact H1
    isplitl [H2]
    · iexists _; isplitr
      · ipureintro; exact harg4.read_unread _
      iexact H2
    isplitl [H3]
    · iexists _; isplitr
      · ipureintro; exact harg5.read_unread _
      iexact H3
    isplitl [H4]
    · iexists _; isplitr
      · ipureintro; exact harg6.read_unread _
      iexact H4
    isplitl [H5]
    · iexists _; isplitr
      · ipureintro; exact harg7.read_unread _
      iexact H5
    isplitl [H6]
    · iexists _; isplitr
      · ipureintro; exact harg8.read_unread _
      iexact H6
    isplitl [H7]
    · iexists _; isplitr
      · ipureintro; exact harg9.read_unread _
      iexact H7
    isplitl [H8]
    · iexists _; isplitr
      · ipureintro; exact harg10.read_unread _
      iexact H8
    isplitl [H9]
    · iexists _; isplitr
      · ipureintro; exact harg11.read_unread _
      iexact H9
    isplitl [H10]
    · iexists _; isplitr
      · ipureintro; exact harg12.read_unread _
      iexact H10
    isplitl [H11]
    · iexists _; isplitr
      · ipureintro; exact harg13.read_unread _
      iexact H11
    isplitl [H12]
    · iexists _; isplitr
      · ipureintro; exact harg14.read_unread _
      iexact H12
    isplitl [H13]
    · iexists _; isplitr
      · ipureintro; exact harg15.read_unread _
      iexact H13
    isplitl [H14]
    · iexists _; isplitr
      · ipureintro; exact harg16.read_unread _
      iexact H14
    isplitl [H15]
    · iexists _; isplitr
      · ipureintro; exact harg17.read_unread _
      iexact H15
    isplitl [H16]
    · iexists _; isplitr
      · ipureintro; exact harg18.read_unread _
      iexact H16
    isplitl [H17]
    · iexists _, _; isplitr
      swap
      · iexact H17
      ipureintro; rfl
    isplitl [H18]
    · iexists _, _; isplitr
      swap
      · iexact H18
      ipureintro; rfl
    isplitl [H19]
    · iexists _, _; isplitr
      swap
      · iexact H19
      ipureintro; rfl
    isplitl [H20]
    · iexists _, _; isplitr
      swap
      · iexact H20
      ipureintro; rfl
    isplitl [H21]
    · iexists _, _; isplitr
      swap
      · iexact H21
      ipureintro; rfl
    isplitl [H22]
    · iexists _, _; isplitr
      swap
      · iexact H22
      ipureintro; rfl
    iexists _, _; isplitr
    swap
    · iexact H23
    ipureintro; rfl

variable (m : (ℓ : Loc nD τ sig) → Buf (Elt F) ℓ) (ρ : Dev nD → PrngReg)

/-- The windows: the inputs at their blocks; the entries of the outputs are not read, since the run forgets those windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨_ + 22, h⟩ => absurd h (Nat.not_lt.2 (Nat.le_add_left _ _))
  Φ _ := Pipeline.ΦA spec0 c
  q _ := fullShare
  owed _ := 0

/-- The forgotten windows. -/
def forgotten : Fin cfg0.W → Bool := fun w => w.val == 17 || w.val == 18 || w.val == 19 || w.val == 20 || w.val == 21

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d

set_option maxHeartbeats 4000000 in
/-- The body at a point, between what it is given and what it leaves. -/
theorem point (c : Dev nD) (t : Fin cfg0.N) :
    iprop((dats m 0 c).Φ t.castSucc
      ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare d)
      ∗ (∃ d, owns (c : Thread nD τ) (ms0_18 t) fullShare d)
      ∗ (∃ d, owns (c : Thread nD τ) (ms0_19 t) fullShare d)
      ∗ (∃ d, owns (c : Thread nD τ) (ms0_20 t) fullShare d)
      ∗ (∃ d, owns (c : Thread nD τ) (ms0_21 t) fullShare d))
    ⊢ wp Idealize.ShloMosaic.frame (wpE (defs₀ (F := F)) Variants.none c none) Set.univ (bodyAt0 t) (fun _ =>
      iprop((dats m 0 c).Φ t.succ
      ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t)
      ∗ owns (c : Thread nD τ) (ms0_14 t) fullShare ((dats m 0 c).after 14 t)
      ∗ owns (c : Thread nD τ) (ms0_15 t) fullShare ((dats m 0 c).after 15 t)
      ∗ owns (c : Thread nD τ) (ms0_16 t) fullShare ((dats m 0 c).after 16 t)
      ∗ (∃ d, owns (c : Thread nD τ) (ms0_17 t) fullShare d)
      ∗ (∃ d, owns (c : Thread nD τ) (ms0_18 t) fullShare d)
      ∗ (∃ d, owns (c : Thread nD τ) (ms0_19 t) fullShare d)
      ∗ (∃ d, owns (c : Thread nD τ) (ms0_20 t) fullShare d)
      ∗ (∃ d, owns (c : Thread nD τ) (ms0_21 t) fullShare d))) := by
  unfold bodyAt0
  simp only [before_0, before_1, before_2, before_3, before_4, before_5, before_6, before_7, before_8, before_9, before_10, before_11, before_12, before_13, before_14, before_15, before_16]
  rw [show (dats m 0 c).owesAt () t.succ = (dats m 0 c).owesAt () t.castSucc from rfl,
    after_0, after_1, after_2, after_3, after_4, after_5, after_6, after_7, after_8, after_9, after_10,
    after_11, after_12, after_13, after_14, after_15, after_16]
  rw [show (dats m 0 c).Φ t.castSucc = Pipeline.ΦA spec0 c from rfl, show (dats m 0 c).Φ t.succ = Pipeline.ΦA spec0 c from rfl,
    PhiA0_eq]
  iintro ⟨⟨⟨HU, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17, H18, H19, H20, H21⟩
  iapply (body c (grid0.coords t) _ _ _ _ _ _ _ _ _ _ _ _ _ _ _ _ _ _ _ _ _ _ _ _ _ _ _ _ _ _ _ _ _ _ _ _ _ _ _ _ _ _ _ _ _ _ _ _
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)
      (iblk m c 13 t) (iblk m c 14 t) (iblk m c 15 t) (iblk m c 16 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [HU]; · iexact HU
  isplitl [HC]; · iexact HC
  iintro ⟨H0, H1, H2, H3, H4, H5, H6, H7, H8, H9, H10, H11, H12, H13, H14, H15, H16, H17, H18, H19, H20, H21, HU, HC⟩
  isplitl [HU HC Hg]
  · isplitl [HU HC]
    · isplitl [HU]
      · iexact HU
      iexact HC
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) :
    BodyObligationLoose (dats (F := F) m 0 c) (defs₀ (F := F)) Variants.none () Set.univ forgotten := fun t => by
  rw [bigSep_W0, bigSep_W0, row]
  exact triple_restated (point m c t) rfl .rfl fun _ => .rfl

set_option backward.isDefEq.respectTransparency.types false in
/-- The run of the whole program. -/
theorem run : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_forget cfgs (dats m) (0 : Fin 1) launch0 defs₀ Variants.none forgotten m ρ main
    (hbody := obligation m) (hshare := fun c => (dats m 0 c).share_full fun _ => rfl)
    (howed := fun _ _ => rfl) (V := V m) (hmain := hmain m Variants.none) (hA := A_eq m) (hΦ := fun _ _ => rfl)
    (Q' := _) (hQ' := fun _ h => h)

/-- A staged argument's array ends as it was launched. -/
theorem kept (c : Dev nD) (w : Fin cfg0.W) (h : forgotten w = false) (hin : (cfg0.spec w).isOut = false)
    {X : Buf (Elt F) ((cfg0.win w).arr.view.loc (c.tc : Thread nD τ))}
    (hX : ((dats m 0 c).toRForget forgotten).ArrAt w cfg0.N X) : X = V m c (Pipeline.arrRef spec0 w) :=
  ((Pipeline.Dat.toRForget_arrAt_iff _ h _ _).mp hX).trans (((dats m 0 c).arrAt_in w hin _).trans (A_eq m c w))

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(kept m c 0 rfl rfl ((h.1 c).1 0)).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (kept m c 12 rfl rfl ((h.1 c).1 12)).trans (V_main_arg7 m c),
    (kept m c 13 rfl rfl ((h.1 c).1 13)).trans (V_main_arg8 m c),
    (kept m c 14 rfl rfl ((h.1 c).1 14)).trans (V_main_arg9 m c),
    (kept m c 15 rfl rfl ((h.1 c).1 15)).trans (V_main_arg10 m c),
    (kept m c 16 rfl rfl ((h.1 c).1 16)).trans (V_main_arg11 m c)⟩, h.2⟩) (run m ρ)

end Cert.MixIn.Block

end
-- ==== Proof.MixIn.Body.lean ====
/-
  What the input mixer leaves in its output blocks, from the blocks it is given and the gated values of the rows
  before them, and how a block is read back after the body's stores.
-/
module

public import proofs.«01_k».proof.Proof.Gen.MixInIdeal.Frame.Runs
public import Idealize.ShloMosaic.Lib.WholeRead
public import Idealize.ShloMosaic.Lib.WritesUnit
public import Idealize.ShloMosaic.Lib.ValueIdx
public import Idealize.ShloMosaic.Lib.Pipeline.FrameBody

@[expose] public section

set_option maxRecDepth 16384

noncomputable section

namespace Cert.MixInIdeal.Block

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

/-- Rows kept from before on top of the 512 rows of a block. -/
def joined (prev : Vec F S8x256 .f32) (u : Vec F S512x256 .f32) : Vec F S520x256 .f32 := fun y =>
  if h : (y 0).val < 8 then prev (ix2 (⟨(y 0).val, h⟩ : Fin 8) (y 1))
  else u (ix2 (⟨(y 0).val - 8, by have h : (y 0).val < 520 := (y 0).isLt; omega⟩ : Fin 512) (y 1))

theorem joined_low (prev : Vec F S8x256 .f32) (u : Vec F S512x256 .f32) (k : Fin 520) (d : Fin 256) (h : k.val < 8) :
    joined prev u (ix2 k d) = prev (ix2 (⟨k.val, h⟩ : Fin 8) d) := by
  unfold joined; exact dif_pos h

theorem joined_high (prev : Vec F S8x256 .f32) (u : Vec F S512x256 .f32) (k : Fin 520) (d : Fin 256) (h : ¬ k.val < 8) :
    joined prev u (ix2 k d) = u (ix2 (⟨k.val - 8, by have := k.isLt; omega⟩ : Fin 512) d) := by
  unfold joined; exact dif_neg h

/-- The 512 rows from row `o`. -/
def shifted (o : ℕ) (ho : o ≤ 8) (z : Vec F S520x256 .f32) : Vec F S512x256 .f32 := fun y =>
  z (ix2 (⟨o + (y 0).val, by have : (y 0).val < 512 := (y 0).isLt; omega⟩ : Fin 520) (y 1))

/-- The first eight rows. -/
def top (z : Vec F S520x256 .f32) : Vec F S8x256 .f32 := fun y =>
  z (ix2 (⟨(y 0).val, by have : (y 0).val < 8 := (y 0).isLt; omega⟩ : Fin 520) (y 1))

/-- The block of the convolution's output; `prev` holds the gated values of the rows before the block. -/
def ycBlock (prev : Vec F S8x256 .f32) (x0 : Vec F S1x512x1024 .f32) (x1 : Vec F S1x1024 .f32) (x2 : Vec F S1024x768 .bf16)
    (x3 : Vec F S8x256 .f32) : Vec F S1x512x256 .bf16 :=
  k0_pay10 (k0_pay5 x0 x1 x2) (k0_pay6 x0 x1 x2) (shifted 7 (by omega) (joined prev (k0_pay6 x0 x1 x2)))
    (shifted 6 (by omega) (joined prev (k0_pay6 x0 x1 x2))) (k0_pay8 x3) (k0_pay9 x3)

/-- The block of the recurrent part's projection. -/
def recurBlock (x0 : Vec F S1x512x1024 .f32) (x1 : Vec F S1x1024 .f32) (x4 : Vec F S1024x1024 .bf16) : Vec F S1x512x1024 .f32 :=
  k0_pay12 (k0_pay4 x0 x1) x4

/-- The eight heads' transposed values. -/
def heads (x0 : Vec F S1x512x1024 .f32) (x1 : Vec F S1x1024 .f32) (x7 : Vec F S1024x1024 .bf16) :
    Fin 8 → Vec F S1x1x1x128x512 .bf16 :=
  ![k0_pay55 (k0_pay4 x0 x1) x7, k0_pay56 (k0_pay4 x0 x1) x7, k0_pay58 (k0_pay57 (k0_pay4 x0 x1) x7),
    k0_pay59 (k0_pay53 (k0_pay4 x0 x1) x7) (k0_pay54 (F := F)), k0_pay60 (k0_pay53 (k0_pay4 x0 x1) x7) (k0_pay54 (F := F)),
    k0_pay61 (k0_pay53 (k0_pay4 x0 x1) x7) (k0_pay54 (F := F)), k0_pay62 (k0_pay53 (k0_pay4 x0 x1) x7) (k0_pay54 (F := F)),
    k0_pay1 (k0_pay63 (k0_pay53 (k0_pay4 x0 x1) x7) (k0_pay54 (F := F)))]

/-- The block of the transposed values. -/
def valueBlock (x0 : Vec F S1x512x1024 .f32) (x1 : Vec F S1x1024 .f32) (x7 : Vec F S1024x1024 .bf16) :
    Vec F S1x8x1x128x512 .bf16 := fun y => heads x0 x1 x7 (y 1) (ix5 0 0 0 (y 3) (y 4))

/-- A value chosen among the eight heads' by comparing the head's number, the last head first. -/
theorem by_head {α : Type} (p : Fin 8 → α) (k : Fin 8) (z : α) :
    (if k.val = 7 then p 7 else if k.val = 6 then p 6 else if k.val = 5 then p 5 else if k.val = 4 then p 4
      else if k.val = 3 then p 3 else if k.val = 2 then p 2 else if k.val = 1 then p 1 else if k.val = 0 then p 0 else z) = p k := by
  match k with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- A load of a whole block held at known contents. -/
theorem readAt_whole {κ : Kind} {sp : Space} {n : ℕ} {size : Fin n → ℕ} {e : EltTy} {r : Memref sig κ sp ⟨n, size⟩ e} (hr : r.IsWhole)
    (x : Vec F ⟨n, size⟩ e) (off : Fin n → ℕ) (h : ∀ a, off a + size a ≤ size a) :
    r.view.readAt (Elt F) (Rect.unit (s := ⟨n, size⟩) off size h).toLoadRect (hr.unread x) = x := by
  funext y
  refine (hr.readAt_unread x _ y).trans (congrArg x (funext fun a => Fin.ext ?_))
  show off a + 1 * (y a).val = (y a).val
  have := h a
  omega

/-- A buffer read back after a store of the whole of it. -/
theorem read_whole {κ : Kind} {sp : Space} {n : ℕ} {size : Fin n → ℕ} {e : EltTy} (v : View sig κ sp ⟨n, size⟩ e)
    (f : v.ty.Contents (Elt F)) (off : Fin n → ℕ) (h : ∀ a, off a + size a ≤ size a)
    (w : (⟨n, size⟩ : Shape).Idx → Elt F e) (L : List (View.Piece (Elt F) ⟨n, size⟩ e)) :
    v.read (Elt F) (v.writes (Elt F) f (⟨Rect.unit (s := ⟨n, size⟩) off size h, w⟩ :: L)) = w := by
  funext y
  exact View.read_writes_cons_unit_of_mem v f h w L y y rfl fun a => by have := h a; omega

/-- What is stored of the gated values is the gated values. -/
theorem stored_eq (x0 : Vec F S1x512x1024 .f32) (x1 : Vec F S1x1024 .f32) (x2 : Vec F S1024x768 .bf16) :
    k0_pay7 x0 x1 x2 = k0_pay6 x0 x1 x2 := by
  unfold k0_pay7
  exact shapeCast_self _ _

section rows

variable {κ : Kind} {sp : Space} (v : View sig κ sp S520x256 .f32) (f : v.ty.Contents (Elt F))
  (L : List (View.Piece (Elt F) S520x256 .f32))

/-- One row read back after the block's rows were stored from row 8. -/
theorem read_row (u : Vec F S512x256 .f32) (prev : Vec F S8x256 .f32)
    (hp : top (v.read (Elt F) (v.writes (Elt F) f L)) = prev)
    (h8 : ∀ a, (![8, 0] : Fin 2 → ℕ) a + S512x256.size a ≤ S520x256.size a) (k : Fin 520) (d : Fin 256) :
    v.read (Elt F) (v.writes (Elt F) f (⟨Rect.unit (s := S520x256) ![8, 0] ![512, 256] h8, u⟩ :: L)) (ix2 k d)
      = joined prev u (ix2 k d) := by
  have hk := k.isLt
  by_cases hlt : k.val < 8
  · rw [joined_low prev u k d hlt]
    subst hp
    exact View.read_writes_cons_unit_of_not_mem v f h8 u L (ix2 k d) rfl 0 (Or.inl hlt)
  · rw [joined_high prev u k d hlt]
    refine View.read_writes_cons_unit_of_mem v f h8 u L (ix2 k d) (ix2 (⟨k.val - 8, by omega⟩ : Fin 512) d) rfl fun a => ?_
    match a with
    | ⟨0, _⟩ => show k.val = 8 + (k.val - 8); omega
    | ⟨1, _⟩ => show d.val = 0 + d.val; omega

/-- 512 rows read back from row `o`, after the block's rows were stored from row 8. -/
theorem read_joined (u : Vec F S512x256 .f32) (prev : Vec F S8x256 .f32) (o : ℕ) (ho : o ≤ 8)
    (hp : top (v.read (Elt F) (v.writes (Elt F) f L)) = prev)
    (h8 : ∀ a, (![8, 0] : Fin 2 → ℕ) a + S512x256.size a ≤ S520x256.size a)
    (h : ∀ a, (![o, 0] : Fin 2 → ℕ) a + S512x256.size a ≤ S520x256.size a) :
    v.readAt (Elt F) (Rect.unit (s := S520x256) ![o, 0] ![512, 256] h).toLoadRect
        (v.writes (Elt F) f (⟨Rect.unit (s := S520x256) ![8, 0] ![512, 256] h8, u⟩ :: L))
      = shifted o ho (joined prev u) := by
  funext y
  have hy : (y 0).val < 512 := (y 0).isLt
  have e : (Rect.unit (s := S520x256) ![o, 0] ![512, 256] h).toLoadRect.idx y
      = ix2 (⟨o + (y 0).val, by omega⟩ : Fin 520) (y 1 : Fin 256) := funext fun a => Fin.ext (by
    match a with
    | ⟨0, _⟩ => show o + 1 * (y 0).val = o + (y 0).val; omega
    | ⟨1, _⟩ => show 0 + 1 * (y 1).val = (y 1).val; omega)
  exact (congrArg (v.read (Elt F) _) e).trans (read_row v f L u prev hp h8 _ _)

/-- The first eight rows after a store into them. -/
theorem top_stored (u : Vec F S8x256 .f32) (h : ∀ a, (![0, 0] : Fin 2 → ℕ) a + S8x256.size a ≤ S520x256.size a) :
    top (v.read (Elt F) (v.writes (Elt F) f (⟨Rect.unit (s := S520x256) ![0, 0] ![8, 256] h, u⟩ :: L))) = u := by
  funext y
  have h0 : (y 0).val < 8 := (y 0).isLt
  refine View.read_writes_cons_unit_of_mem v f h u L (ix2 (⟨(y 0).val, by omega⟩ : Fin 520) (y 1 : Fin 256)) y rfl fun a => ?_
  match a with
  | ⟨0, _⟩ => show (y 0).val = 0 + (y 0).val; omega
  | ⟨1, _⟩ => show (y 1).val = 0 + (y 1).val; omega

end rows

section values

variable {κ : Kind} {sp : Space} (v : View sig κ sp S1x8x1x128x512 .bf16) (f : v.ty.Contents (Elt F))
  (L : List (View.Piece (Elt F) S1x8x1x128x512 .bf16))

/-- The transposed values read back after one head was stored. -/
theorem read_head (k : ℕ) (p : Vec F S1x1x1x128x512 .bf16)
    (h : ∀ a, (![0, k, 0, 0, 0] : Fin 5 → ℕ) a + S1x1x1x128x512.size a ≤ S1x8x1x128x512.size a) (y : S1x8x1x128x512.Idx) :
    v.read (Elt F) (v.writes (Elt F) f (⟨Rect.unit (s := S1x8x1x128x512) ![0, k, 0, 0, 0] ![1, 1, 1, 128, 512] h, p⟩ :: L)) y
      = if (y 1).val = k then p (ix5 0 0 0 (y 3) (y 4)) else v.read (Elt F) (v.writes (Elt F) f L) y := by
  have y0 : (y 0).val < 1 := (y 0).isLt
  have y2 : (y 2).val < 1 := (y 2).isLt
  by_cases hk : (y 1).val = k
  · rw [if_pos hk]
    refine View.read_writes_cons_unit_of_mem v f h p L y (ix5 0 0 0 (y 3 : Fin 128) (y 4 : Fin 512)) rfl fun a => ?_
    match a with
    | ⟨0, _⟩ => show (y 0).val = 0 + 0; omega
    | ⟨1, _⟩ => show (y 1).val = k + 0; omega
    | ⟨2, _⟩ => show (y 2).val = 0 + 0; omega
    | ⟨3, _⟩ => show (y 3).val = 0 + (y 3).val; omega
    | ⟨4, _⟩ => show (y 4).val = 0 + (y 4).val; omega
  · rw [if_neg hk]
    exact View.read_writes_cons_unit_of_not_mem v f h p L y rfl 1 (by
      show (y 1).val < k ∨ k + 1 ≤ (y 1).val
      omega)

end values

end Cert.MixInIdeal.Block

end
-- ==== Proof.MixIn.First.lean ====
/-
  The input mixer's body on the first block of a batch.
-/
module

public import proofs.«01_k».proof.Proof.MixIn.Body

@[expose] public section

set_option maxRecDepth 16384

noncomputable section

namespace Cert.MixInIdeal.Block

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 16000000 in
/-- The first block of a batch: the three rows before it are taken as zeros. -/
theorem first (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x768 .bf16) (harg4 : arg4.IsWhole)
    (arg5 : Memref sig .tc .vmem S8x256 .f32) (harg5 : arg5.IsWhole)
    (arg6 : Memref sig .tc .vmem S1024x1024 .bf16) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x128 .bf16) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S512x1536 .bf16) (harg14 : arg14.IsWhole)
    (arg15 : Memref sig .tc .vmem S384x1024 .bf16) (harg15 : arg15.IsWhole)
    (arg16 : Memref sig .tc .vmem S384x1024 .bf16) (harg16 : arg16.IsWhole)
    (arg17 : Memref sig .tc .vmem S1x1024 .f32) (harg17 : arg17.IsWhole)
    (arg18 : Memref sig .tc .vmem S1x1024 .f32) (harg18 : arg18.IsWhole)
    (arg19 : Memref sig .tc .vmem S1x512x256 .bf16) (harg19 : arg19.IsWhole)
    (arg20 : Memref sig .tc .vmem S1x512x1024 .f32) (harg20 : arg20.IsWhole)
    (arg21 : Memref sig .tc .vmem S1x8x512x128 .bf16) (harg21 : arg21.IsWhole)
    (arg22 : Memref sig .tc .vmem S1x8x512x128 .bf16) (harg22 : arg22.IsWhole)
    (arg23 : Memref sig .tc .vmem S1x8x1x128x512 .bf16) (harg23 : arg23.IsWhole)
    (arg24 : Memref sig .tc .vmem S520x256 .f32) (harg24 : arg24.IsWhole)
    (arg25 : Memref sig .tc .vmem S1x128 .f32) (harg25 : arg25.IsWhole)
    (hc : cond0_0 i)
    (x0 : Vec F S1x512x1024 .f32) (x1 : Vec F S1x1024 .f32) (x2 : Vec F S1024x768 .bf16)
    (x3 : Vec F S8x256 .f32) (x4 : Vec F S1024x1024 .bf16) (x5 : Vec F S1024x1024 .bf16)
    (x6 : Vec F S1024x1024 .bf16) (x7 : Vec F S1024x1024 .bf16) (x8 : Vec F S1024x128 .bf16)
    (x9 : Vec F S1x128 .f32) (x10 : Vec F S1x128 .f32) (x11 : Vec F S1x128 .f32) (x12 : Vec F S512x1536 .bf16)
    (x13 : Vec F S384x1024 .bf16) (x14 : Vec F S384x1024 .bf16) (x15 : Vec F S1x1024 .f32)
    (x16 : Vec F S1x1024 .f32)
    (E : Set ℕ) (K : PUnit → sProp 𝕄) :
    iprop(owns (c : Thread nD τ) arg2 fullShare x0 ∗ owns (c : Thread nD τ) arg3 fullShare x1 ∗
        owns (c : Thread nD τ) arg4 fullShare x2 ∗ owns (c : Thread nD τ) arg5 fullShare x3 ∗
        owns (c : Thread nD τ) arg6 fullShare x4 ∗ owns (c : Thread nD τ) arg7 fullShare x5 ∗
        owns (c : Thread nD τ) arg8 fullShare x6 ∗ owns (c : Thread nD τ) arg9 fullShare x7 ∗
        owns (c : Thread nD τ) arg10 fullShare x8 ∗ owns (c : Thread nD τ) arg11 fullShare x9 ∗
        owns (c : Thread nD τ) arg12 fullShare x10 ∗ owns (c : Thread nD τ) arg13 fullShare x11 ∗
        owns (c : Thread nD τ) arg14 fullShare x12 ∗ owns (c : Thread nD τ) arg15 fullShare x13 ∗
        owns (c : Thread nD τ) arg16 fullShare x14 ∗ owns (c : Thread nD τ) arg17 fullShare x15 ∗
        owns (c : Thread nD τ) arg18 fullShare x16 ∗ (∃ d, owns (c : Thread nD τ) arg19 fullShare d) ∗
        (∃ d, owns (c : Thread nD τ) arg20 fullShare d) ∗ (∃ d, owns (c : Thread nD τ) arg21 fullShare d) ∗
        (∃ d, owns (c : Thread nD τ) arg22 fullShare d) ∗ (∃ d, owns (c : Thread nD τ) arg23 fullShare d) ∗
        (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗
            owns (c : Thread nD τ) arg4 fullShare x2 ∗ owns (c : Thread nD τ) arg5 fullShare x3 ∗
            owns (c : Thread nD τ) arg6 fullShare x4 ∗ owns (c : Thread nD τ) arg7 fullShare x5 ∗
            owns (c : Thread nD τ) arg8 fullShare x6 ∗ owns (c : Thread nD τ) arg9 fullShare x7 ∗
            owns (c : Thread nD τ) arg10 fullShare x8 ∗ owns (c : Thread nD τ) arg11 fullShare x9 ∗
            owns (c : Thread nD τ) arg12 fullShare x10 ∗ owns (c : Thread nD τ) arg13 fullShare x11 ∗
            owns (c : Thread nD τ) arg14 fullShare x12 ∗ owns (c : Thread nD τ) arg15 fullShare x13 ∗
            owns (c : Thread nD τ) arg16 fullShare x14 ∗ owns (c : Thread nD τ) arg17 fullShare x15 ∗
            owns (c : Thread nD τ) arg18 fullShare x16 ∗
            owns (c : Thread nD τ) arg19 fullShare (ycBlock (k0_pay2 (F := F)) x0 x1 x2 x3) ∗
            owns (c : Thread nD τ) arg20 fullShare (recurBlock x0 x1 x4) ∗
            (∃ d, owns (c : Thread nD τ) arg21 fullShare d) ∗ (∃ d, owns (c : Thread nD τ) arg22 fullShare d) ∗
            owns (c : Thread nD τ) arg23 fullShare (valueBlock x0 x1 x7) ∗
            (∃ d, ⌜top d = k0_pay11 (k0_pay6 x0 x1 x2)⌝ ∗ owns (c : Thread nD τ) arg24 fullShare d) ∗
            (∃ d, owns (c : Thread nD τ) arg25 fullShare d)) -∗ K ⟨⟩))
      ⊢ wp Idealize.ShloMosaic.frame (wpE (defs₀ (F := F)) Variants.none c none) E
        (cc0_mix_in i arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17
        arg18 harg18 arg19 harg19 arg20 harg20 arg21 harg21 arg22 harg22 arg23 harg23 arg24 harg24 arg25 harg25) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%d17, %f17, -, H17⟩, ⟨%d18, %f18, -, H18⟩, ⟨%d19, %f19, -, H19⟩, ⟨%d20, %f20, -, H20⟩,
    ⟨%d21, %f21, -, H21⟩, ⟨%d22, %f22, -, H22⟩, ⟨%d23, %f23, -, H23⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16
  simp only [cc0_mix_in_eq_skeleton]; unfold cc0_mix_in_skel
  simp only [
    k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton]
  sl_exec (disch := first | sl_exact hc)
  sl_step
  sl_unfold_run_names
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    · ipureintro; exact harg13.read_unread _
    iexact H11
  isplitl [H12]
  · iexists _; isplitr
    · ipureintro; exact harg14.read_unread _
    iexact H12
  isplitl [H13]
  · iexists _; isplitr
    · ipureintro; exact harg15.read_unread _
    iexact H13
  isplitl [H14]
  · iexists _; isplitr
    · ipureintro; exact harg16.read_unread _
    iexact H14
  isplitl [H15]
  · iexists _; isplitr
    · ipureintro; exact harg17.read_unread _
    iexact H15
  isplitl [H16]
  · iexists _; isplitr
    · ipureintro; exact harg18.read_unread _
    iexact H16
  isplitl [H17]
  · iexists _; isplitr
    swap
    · iexact H17
    ipureintro; (simp only [read_whole, readAt_whole, stored_eq]; exact congrArg₂ (fun p q => k0_pay10 (k0_pay5 x0 x1 x2) (k0_pay6 x0 x1 x2) p q (k0_pay8 x3) (k0_pay9 x3))
                  (read_joined arg24.view _ [⟨Rect.unit (s := S520x256) ![0, 0] ![8, 256] inb_S520x256_S8x256_0_0, k0_pay2⟩] (k0_pay6 x0 x1 x2) (k0_pay2 (F := F)) 7 (by omega) (top_stored _ _ _ _ _) _ _)
                  (read_joined arg24.view _ [⟨Rect.unit (s := S520x256) ![0, 0] ![8, 256] inb_S520x256_S8x256_0_0, k0_pay2⟩] (k0_pay6 x0 x1 x2) (k0_pay2 (F := F)) 6 (by omega) (top_stored _ _ _ _ _) _ _))
  isplitl [H18]
  · iexists _; isplitr
    swap
    · iexact H18
    ipureintro; (simp only [read_whole, readAt_whole]; rfl)
  isplitl [H19]
  · iexists _, _; isplitr
    swap
    · iexact H19
    ipureintro; rfl
  isplitl [H20]
  · iexists _, _; isplitr
    swap
    · iexact H20
    ipureintro; rfl
  isplitl [H21]
  · iexists _; isplitr
    swap
    · iexact H21
    ipureintro; (simp only [readAt_whole]; funext y; simp only [read_head]; exact by_head (fun k => heads x0 x1 x7 k (ix5 0 0 0 (y 3) (y 4))) (y 1) _)
  isplitl [H22]
  · iexists _; isplitr
    swap
    · iexists _; isplitr
      swap
      · iexact H22
      ipureintro; rfl
    ipureintro; (simp only [readAt_whole]; exact top_stored _ _ _ _ _)
  iexists _, _; isplitr
  swap
  · iexact H23
  ipureintro; rfl

end Cert.MixInIdeal.Block

end
-- ==== Proof.MixIn.Later.lean ====
/-
  The input mixer's body on the later blocks of a batch.
-/
module

public import proofs.«01_k».proof.Proof.MixIn.Body

@[expose] public section

set_option maxRecDepth 16384

noncomputable section

namespace Cert.MixInIdeal.Block

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 16000000 in
/-- A later block of a batch: the rows before it were left by the block before, `prev`. -/
theorem later (c : Dev nD) (i : grid0.Coords)
    (arg2 : Memref sig .tc .vmem S1x512x1024 .f32) (harg2 : arg2.IsWhole)
    (arg3 : Memref sig .tc .vmem S1x1024 .f32) (harg3 : arg3.IsWhole)
    (arg4 : Memref sig .tc .vmem S1024x768 .bf16) (harg4 : arg4.IsWhole)
    (arg5 : Memref sig .tc .vmem S8x256 .f32) (harg5 : arg5.IsWhole)
    (arg6 : Memref sig .tc .vmem S1024x1024 .bf16) (harg6 : arg6.IsWhole)
    (arg7 : Memref sig .tc .vmem S1024x1024 .bf16) (harg7 : arg7.IsWhole)
    (arg8 : Memref sig .tc .vmem S1024x1024 .bf16) (harg8 : arg8.IsWhole)
    (arg9 : Memref sig .tc .vmem S1024x1024 .bf16) (harg9 : arg9.IsWhole)
    (arg10 : Memref sig .tc .vmem S1024x128 .bf16) (harg10 : arg10.IsWhole)
    (arg11 : Memref sig .tc .vmem S1x128 .f32) (harg11 : arg11.IsWhole)
    (arg12 : Memref sig .tc .vmem S1x128 .f32) (harg12 : arg12.IsWhole)
    (arg13 : Memref sig .tc .vmem S1x128 .f32) (harg13 : arg13.IsWhole)
    (arg14 : Memref sig .tc .vmem S512x1536 .bf16) (harg14 : arg14.IsWhole)
    (arg15 : Memref sig .tc .vmem S384x1024 .bf16) (harg15 : arg15.IsWhole)
    (arg16 : Memref sig .tc .vmem S384x1024 .bf16) (harg16 : arg16.IsWhole)
    (arg17 : Memref sig .tc .vmem S1x1024 .f32) (harg17 : arg17.IsWhole)
    (arg18 : Memref sig .tc .vmem S1x1024 .f32) (harg18 : arg18.IsWhole)
    (arg19 : Memref sig .tc .vmem S1x512x256 .bf16) (harg19 : arg19.IsWhole)
    (arg20 : Memref sig .tc .vmem S1x512x1024 .f32) (harg20 : arg20.IsWhole)
    (arg21 : Memref sig .tc .vmem S1x8x512x128 .bf16) (harg21 : arg21.IsWhole)
    (arg22 : Memref sig .tc .vmem S1x8x512x128 .bf16) (harg22 : arg22.IsWhole)
    (arg23 : Memref sig .tc .vmem S1x8x1x128x512 .bf16) (harg23 : arg23.IsWhole)
    (arg24 : Memref sig .tc .vmem S520x256 .f32) (harg24 : arg24.IsWhole)
    (arg25 : Memref sig .tc .vmem S1x128 .f32) (harg25 : arg25.IsWhole)
    (hc : ¬ cond0_0 i) (prev : Vec F S8x256 .f32)
    (x0 : Vec F S1x512x1024 .f32) (x1 : Vec F S1x1024 .f32) (x2 : Vec F S1024x768 .bf16)
    (x3 : Vec F S8x256 .f32) (x4 : Vec F S1024x1024 .bf16) (x5 : Vec F S1024x1024 .bf16)
    (x6 : Vec F S1024x1024 .bf16) (x7 : Vec F S1024x1024 .bf16) (x8 : Vec F S1024x128 .bf16)
    (x9 : Vec F S1x128 .f32) (x10 : Vec F S1x128 .f32) (x11 : Vec F S1x128 .f32) (x12 : Vec F S512x1536 .bf16)
    (x13 : Vec F S384x1024 .bf16) (x14 : Vec F S384x1024 .bf16) (x15 : Vec F S1x1024 .f32)
    (x16 : Vec F S1x1024 .f32)
    (E : Set ℕ) (K : PUnit → sProp 𝕄) :
    iprop(owns (c : Thread nD τ) arg2 fullShare x0 ∗ owns (c : Thread nD τ) arg3 fullShare x1 ∗
        owns (c : Thread nD τ) arg4 fullShare x2 ∗ owns (c : Thread nD τ) arg5 fullShare x3 ∗
        owns (c : Thread nD τ) arg6 fullShare x4 ∗ owns (c : Thread nD τ) arg7 fullShare x5 ∗
        owns (c : Thread nD τ) arg8 fullShare x6 ∗ owns (c : Thread nD τ) arg9 fullShare x7 ∗
        owns (c : Thread nD τ) arg10 fullShare x8 ∗ owns (c : Thread nD τ) arg11 fullShare x9 ∗
        owns (c : Thread nD τ) arg12 fullShare x10 ∗ owns (c : Thread nD τ) arg13 fullShare x11 ∗
        owns (c : Thread nD τ) arg14 fullShare x12 ∗ owns (c : Thread nD τ) arg15 fullShare x13 ∗
        owns (c : Thread nD τ) arg16 fullShare x14 ∗ owns (c : Thread nD τ) arg17 fullShare x15 ∗
        owns (c : Thread nD τ) arg18 fullShare x16 ∗ (∃ d, owns (c : Thread nD τ) arg19 fullShare d) ∗
        (∃ d, owns (c : Thread nD τ) arg20 fullShare d) ∗ (∃ d, owns (c : Thread nD τ) arg21 fullShare d) ∗
        (∃ d, owns (c : Thread nD τ) arg22 fullShare d) ∗ (∃ d, owns (c : Thread nD τ) arg23 fullShare d) ∗
        (∃ d, ⌜top d = prev⌝ ∗ owns (c : Thread nD τ) arg24 fullShare d) ∗
        (∃ d, owns (c : Thread nD τ) arg25 fullShare d)
        ∗ (iprop(owns (c : Thread nD τ) arg2 fullShare x0 ∗ owns (c : Thread nD τ) arg3 fullShare x1 ∗
            owns (c : Thread nD τ) arg4 fullShare x2 ∗ owns (c : Thread nD τ) arg5 fullShare x3 ∗
            owns (c : Thread nD τ) arg6 fullShare x4 ∗ owns (c : Thread nD τ) arg7 fullShare x5 ∗
            owns (c : Thread nD τ) arg8 fullShare x6 ∗ owns (c : Thread nD τ) arg9 fullShare x7 ∗
            owns (c : Thread nD τ) arg10 fullShare x8 ∗ owns (c : Thread nD τ) arg11 fullShare x9 ∗
            owns (c : Thread nD τ) arg12 fullShare x10 ∗ owns (c : Thread nD τ) arg13 fullShare x11 ∗
            owns (c : Thread nD τ) arg14 fullShare x12 ∗ owns (c : Thread nD τ) arg15 fullShare x13 ∗
            owns (c : Thread nD τ) arg16 fullShare x14 ∗ owns (c : Thread nD τ) arg17 fullShare x15 ∗
            owns (c : Thread nD τ) arg18 fullShare x16 ∗
            owns (c : Thread nD τ) arg19 fullShare (ycBlock prev x0 x1 x2 x3) ∗
            owns (c : Thread nD τ) arg20 fullShare (recurBlock x0 x1 x4) ∗
            (∃ d, owns (c : Thread nD τ) arg21 fullShare d) ∗ (∃ d, owns (c : Thread nD τ) arg22 fullShare d) ∗
            owns (c : Thread nD τ) arg23 fullShare (valueBlock x0 x1 x7) ∗
            (∃ d, ⌜top d = k0_pay11 (k0_pay6 x0 x1 x2)⌝ ∗ owns (c : Thread nD τ) arg24 fullShare d) ∗
            (∃ d, owns (c : Thread nD τ) arg25 fullShare d)) -∗ K ⟨⟩))
      ⊢ wp Idealize.ShloMosaic.frame (wpE (defs₀ (F := F)) Variants.none c none) E
        (cc0_mix_in i arg2 harg2 arg3 harg3 arg4 harg4 arg5 harg5 arg6 harg6 arg7 harg7 arg8 harg8 arg9 harg9
        arg10 harg10 arg11 harg11 arg12 harg12 arg13 harg13 arg14 harg14 arg15 harg15 arg16 harg16 arg17 harg17
        arg18 harg18 arg19 harg19 arg20 harg20 arg21 harg21 arg22 harg22 arg23 harg23 arg24 harg24 arg25 harg25) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%d17, %f17, -, H17⟩, ⟨%d18, %f18, -, H18⟩, ⟨%d19, %f19, -, H19⟩, ⟨%d20, %f20, -, H20⟩,
    ⟨%d21, %f21, -, H21⟩, ⟨%d22, %hd, %f22, %hf22, H22⟩, ⟨%d23, %f23, -, H23⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7; obtain rfl := harg10.eq_unread hf8
  obtain rfl := harg11.eq_unread hf9; obtain rfl := harg12.eq_unread hf10; obtain rfl := harg13.eq_unread hf11
  obtain rfl := harg14.eq_unread hf12; obtain rfl := harg15.eq_unread hf13; obtain rfl := harg16.eq_unread hf14
  obtain rfl := harg17.eq_unread hf15; obtain rfl := harg18.eq_unread hf16
  simp only [cc0_mix_in_eq_skeleton]; unfold cc0_mix_in_skel
  simp only [
    k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton]
  sl_exec (disch := first | sl_exact hc)
  sl_step
  sl_unfold_run_names
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    · ipureintro; exact harg12.read_unread _
    iexact H10
  isplitl [H11]
  · iexists _; isplitr
    · ipureintro; exact harg13.read_unread _
    iexact H11
  isplitl [H12]
  · iexists _; isplitr
    · ipureintro; exact harg14.read_unread _
    iexact H12
  isplitl [H13]
  · iexists _; isplitr
    · ipureintro; exact harg15.read_unread _
    iexact H13
  isplitl [H14]
  · iexists _; isplitr
    · ipureintro; exact harg16.read_unread _
    iexact H14
  isplitl [H15]
  · iexists _; isplitr
    · ipureintro; exact harg17.read_unread _
    iexact H15
  isplitl [H16]
  · iexists _; isplitr
    · ipureintro; exact harg18.read_unread _
    iexact H16
  isplitl [H17]
  · iexists _; isplitr
    swap
    · iexact H17
    ipureintro; (simp only [read_whole, readAt_whole, stored_eq]; exact congrArg₂ (fun p q => k0_pay10 (k0_pay5 x0 x1 x2) (k0_pay6 x0 x1 x2) p q (k0_pay8 x3) (k0_pay9 x3))
                  (read_joined arg24.view _ [] (k0_pay6 x0 x1 x2) prev 7 (by omega) ((congrArg top hf22).trans hd) _ _)
                  (read_joined arg24.view _ [] (k0_pay6 x0 x1 x2) prev 6 (by omega) ((congrArg top hf22).trans hd) _ _))
  isplitl [H18]
  · iexists _; isplitr
    swap
    · iexact H18
    ipureintro; (simp only [read_whole, readAt_whole]; rfl)
  isplitl [H19]
  · iexists _, _; isplitr
    swap
    · iexact H19
    ipureintro; rfl
  isplitl [H20]
  · iexists _, _; isplitr
    swap
    · iexact H20
    ipureintro; rfl
  isplitl [H21]
  · iexists _; isplitr
    swap
    · iexact H21
    ipureintro; (simp only [readAt_whole]; funext y; simp only [read_head]; exact by_head (fun k => heads x0 x1 x7 k (ix5 0 0 0 (y 3) (y 4))) (y 1) _)
  isplitl [H22]
  · iexists _; isplitr
    swap
    · iexists _; isplitr
      swap
      · iexact H22
      ipureintro; rfl
    ipureintro; (simp only [readAt_whole]; exact top_stored _ _ _ _ _)
  iexists _, _; isplitr
  swap
  · iexact H23
  ipureintro; rfl

end Cert.MixInIdeal.Block

end
-- ==== Proof.MixIn.History.lean ====
/-
  What the points of the input mixer's grid pass on: the last gated values of one block, which the next block of the same
  batch reads.
-/
module

public import proofs.«01_k».proof.Proof.MixIn.Body

@[expose] public section

set_option maxRecDepth 16384

noncomputable section

namespace Cert.MixInIdeal.Block

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The last eight rows of gated values of a point's block, which the next point of the same batch reads. -/
def lastRows (c : Dev nD) (t : Fin cfg0.N) : Vec F S8x256 .f32 :=
  k0_pay11 (k0_pay6 (iblk m c 0 t) (iblk m c 1 t) (iblk m c 2 t))

/-- The gated values of the rows before a point's block: zeros at the start of a batch. -/
def rowsBefore (c : Dev nD) (t : Fin cfg0.N) : Vec F S8x256 .f32 :=
  if t.val % 16 = 0 then k0_pay2 (F := F) else lastRows m c ⟨t.val - 1, by have := t.isLt; omega⟩

end Cert.MixInIdeal.Block

end
-- ==== Proof.MixIn.Frame.lean ====
/-
  The input mixer run over its whole grid.  A point reads its block of rows and, through a buffer kept between points,
  the last gated values of the block before it in the same batch; it leaves the convolution's block, the recurrent
  part's projection and the transposed values in their arrays.  Nothing is said of the queries' and keys' arrays.
-/
module

public import proofs.«01_k».proof.Proof.MixIn.First
public import proofs.«01_k».proof.Proof.MixIn.Later
public import proofs.«01_k».proof.Proof.MixIn.History
public import Idealize.ShloMosaic.Lib.Claim

@[expose] public section

set_option maxRecDepth 16384

noncomputable section

namespace Cert.MixInIdeal.Block

open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is kept before point `n`: the scratch buffers, the first holding in its first eight rows what the point before
    left there. -/
def keeps (c : Dev nD) (n : ℕ) : sProp 𝕄 :=
  iprop(iprop((∃ d, ⌜∀ s : Fin cfg0.N, n = s.val + 1 → top d = lastRows m c s⌝ ∗ owns (c : Thread nD τ) scM0_0 fullShare d)
      ∗ (∃ d, owns (c : Thread nD τ) scM0_1 fullShare d))
    ∗ (∃ r, prngReg c r))

/-- The windows: the inputs at their blocks, three outputs at what the body leaves. The entries of the other two outputs are not read, since the run forgets those windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => ycBlock (rowsBefore m c t) (iblk m c 0 t) (iblk m c 1 t) (iblk m c 2 t) (iblk m c 3 t)
    | ⟨18, _⟩ => recurBlock (iblk m c 0 t) (iblk m c 1 t) (iblk m c 4 t)
    | ⟨19, _⟩ => iblk m c 19 t
    | ⟨20, _⟩ => iblk m c 20 t
    | ⟨21, _⟩ => valueBlock (iblk m c 0 t) (iblk m c 1 t) (iblk m c 7 t)
    | ⟨_ + 22, h⟩ => absurd h (Nat.not_lt.2 (Nat.le_add_left _ _))
  Φ t := keeps m c t.val
  q _ := fullShare
  owed _ := 0

/-- The forgotten windows. -/
def forgotten : Fin cfg0.W → Bool := fun w => w.val == 19 || w.val == 20

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = ycBlock (rowsBefore m c t) (iblk m c 0 t) (iblk m c 1 t) (iblk m c 2 t) (iblk m c 3 t) := by dsimp only [dats]
theorem after_18 (c : Dev nD) (t : Fin cfg0.N) : (dats m 0 c).after 18 t = recurBlock (iblk m c 0 t) (iblk m c 1 t) (iblk m c 4 t) := by dsimp only [dats]
theorem after_21 (c : Dev nD) (t : Fin cfg0.N) : (dats m 0 c).after 21 t = valueBlock (iblk m c 0 t) (iblk m c 1 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d

/-- What the next point is told of the kept rows. -/
theorem next_rows (c : Dev nD) (t : Fin cfg0.N) (e : Vec F S520x256 .f32)
    (he : top e = k0_pay11 (k0_pay6 (iblk m c 0 t) (iblk m c 1 t) (iblk m c 2 t))) (s : Fin cfg0.N) (h : t.val + 1 = s.val + 1) :
    top e = lastRows m c s := by
  obtain rfl : t = s := Fin.ext (by omega)
  exact he

set_option maxHeartbeats 4000000 in
/-- The body at a point, between what it is given and what it leaves. -/
theorem point (c : Dev nD) (t : Fin cfg0.N) :
    iprop((dats m 0 c).Φ t.castSucc
      ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d))
      ∗ (∃ d, owns (c : Thread nD τ) (ms0_12 t) fullShare ((dats m 0 c).before 12 t d))
      ∗ (∃ d, owns (c : Thread nD τ) (ms0_13 t) fullShare ((dats m 0 c).before 13 t d))
      ∗ (∃ d, owns (c : Thread nD τ) (ms0_14 t) fullShare ((dats m 0 c).before 14 t d))
      ∗ (∃ d, owns (c : Thread nD τ) (ms0_15 t) fullShare ((dats m 0 c).before 15 t d))
      ∗ (∃ d, owns (c : Thread nD τ) (ms0_16 t) fullShare ((dats m 0 c).before 16 t d))
      ∗ (∃ d, owns (c : Thread nD τ) (ms0_17 t) fullShare ((dats m 0 c).before 17 t d))
      ∗ (∃ d, owns (c : Thread nD τ) (ms0_18 t) fullShare ((dats m 0 c).before 18 t d))
      ∗ (∃ d, owns (c : Thread nD τ) (ms0_19 t) fullShare d)
      ∗ (∃ d, owns (c : Thread nD τ) (ms0_20 t) fullShare d)
      ∗ (∃ d, owns (c : Thread nD τ) (ms0_21 t) fullShare ((dats m 0 c).before 21 t d)))
    ⊢ wp Idealize.ShloMosaic.frame (wpE (defs₀ (F := F)) Variants.none c none) Set.univ (bodyAt0 t) (fun _ =>
      iprop((dats m 0 c).Φ t.succ
      ∗ (dats m 0 c).owesAt () t.succ
      ∗ owns (c : Thread nD τ) (ms0_0 t) fullShare ((dats m 0 c).after 0 t)
      ∗ owns (c : Thread nD τ) (ms0_1 t) fullShare ((dats m 0 c).after 1 t)
      ∗ owns (c : Thread nD τ) (ms0_2 t) fullShare ((dats m 0 c).after 2 t)
      ∗ owns (c : Thread nD τ) (ms0_3 t) fullShare ((dats m 0 c).after 3 t)
      ∗ owns (c : Thread nD τ) (ms0_4 t) fullShare ((dats m 0 c).after 4 t)
      ∗ owns (c : Thread nD τ) (ms0_5 t) fullShare ((dats m 0 c).after 5 t)
      ∗ owns (c : Thread nD τ) (ms0_6 t) fullShare ((dats m 0 c).after 6 t)
      ∗ owns (c : Thread nD τ) (ms0_7 t) fullShare ((dats m 0 c).after 7 t)
      ∗ owns (c : Thread nD τ) (ms0_8 t) fullShare ((dats m 0 c).after 8 t)
      ∗ owns (c : Thread nD τ) (ms0_9 t) fullShare ((dats m 0 c).after 9 t)
      ∗ owns (c : Thread nD τ) (ms0_10 t) fullShare ((dats m 0 c).after 10 t)
      ∗ owns (c : Thread nD τ) (ms0_11 t) fullShare ((dats m 0 c).after 11 t)
      ∗ owns (c : Thread nD τ) (ms0_12 t) fullShare ((dats m 0 c).after 12 t)
      ∗ owns (c : Thread nD τ) (ms0_13 t) fullShare ((dats m 0 c).after 13 t)
      ∗ owns (c : Thread nD τ) (ms0_14 t) fullShare ((dats m 0 c).after 14 t)
      ∗ owns (c : Thread nD τ) (ms0_15 t) fullShare ((dats m 0 c).after 15 t)
      ∗ owns (c : Thread nD τ) (ms0_16 t) fullShare ((dats m 0 c).after 16 t)
      ∗ owns (c : Thread nD τ) (ms0_17 t) fullShare ((dats m 0 c).after 17 t)
      ∗ owns (c : Thread nD τ) (ms0_18 t) fullShare ((dats m 0 c).after 18 t)
      ∗ (∃ d, owns (c : Thread nD τ) (ms0_19 t) fullShare d)
      ∗ (∃ d, owns (c : Thread nD τ) (ms0_20 t) fullShare d)
      ∗ owns (c : Thread nD τ) (ms0_21 t) fullShare ((dats m 0 c).after 21 t))) := by
  unfold bodyAt0
  simp only [before_0, before_1, before_2, before_3, before_4, before_5, before_6, before_7, before_8, before_9, before_10, before_11, before_12, before_13, before_14, before_15, before_16]
  rw [show (dats m 0 c).owesAt () t.succ = (dats m 0 c).owesAt () t.castSucc from rfl,
    after_0, after_1, after_2, after_3, after_4, after_5, after_6, after_7, after_8, after_9, after_10,
    after_11, after_12, after_13, after_14, after_15, after_16, after_17, after_18, after_21]
  rw [show (dats m 0 c).Φ t.castSucc = keeps m c t.val from rfl, show (dats m 0 c).Φ t.succ = keeps m c (t.val + 1) from rfl]
  unfold keeps rowsBefore
  iintro ⟨⟨⟨⟨%u, %hu, HU⟩, HC⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20, ⟨%d21, H21⟩⟩
  by_cases hc : t.val % 16 = 0
  · rw [if_pos hc]
    iapply (first c (grid0.coords t) _ _ _ _ _ _ _ _ _ _ _ _ _ _ _ _ _ _ _ _ _ _ _ _ _ _ _ _ _ _ _ _ _ _ _ _ _ _ _ _ _ _ _ _ _ _ _ _
        ((hcond0_0 t).mpr hc)
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
        (iblk m c 13 t) (iblk m c 14 t) (iblk m c 15 t) (iblk m c 16 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexact H19
    isplitl [H20]; · iexact H20
    isplitl [H21]; · iexists _; iexact H21
    isplitl [HU]; · iexists _; iexact HU
    isplitl [HC]; · iexact HC
    iintro ⟨H0, H1, H2, H3, H4, H5, H6, H7, H8, H9, H10, H11, H12, H13, H14, H15, H16, H17, H18, H19, H20, H21, ⟨%e, %he, HU⟩, HC⟩
    isplitl [HU HC Hg]
    · isplitl [HU HC]
      · isplitl [HU]
        · iexists e; isplitr
          · ipureintro; exact next_rows m c t e he
          iexact HU
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · rw [if_neg hc]
    iapply (later c (grid0.coords t) _ _ _ _ _ _ _ _ _ _ _ _ _ _ _ _ _ _ _ _ _ _ _ _ _ _ _ _ _ _ _ _ _ _ _ _ _ _ _ _ _ _ _ _ _ _ _ _
        (fun h => hc ((hcond0_0 t).mp h)) (lastRows m c ⟨t.val - 1, by have := t.isLt; omega⟩)
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t)
        (iblk m c 13 t) (iblk m c 14 t) (iblk m c 15 t) (iblk m c 16 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexact H19
    isplitl [H20]; · iexact H20
    isplitl [H21]; · iexists _; iexact H21
    isplitl [HU]
    · iexists u; isplitr
      · ipureintro; exact hu ⟨t.val - 1, by have := t.isLt; omega⟩ (by show t.val = t.val - 1 + 1; omega)
      iexact HU
    isplitl [HC]; · iexact HC
    iintro ⟨H0, H1, H2, H3, H4, H5, H6, H7, H8, H9, H10, H11, H12, H13, H14, H15, H16, H17, H18, H19, H20, H21, ⟨%e, %he, HU⟩, HC⟩
    isplitl [HU HC Hg]
    · isplitl [HU HC]
      · isplitl [HU]
        · iexists e; isplitr
          · ipureintro; exact next_rows m c t e he
          iexact HU
        iexact HC
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

theorem row (t : Fin cfg0.N) : defs₀ (F := F) .tc cfg0.body (cfg0.bodyArgs t (cfg0.slots t)) = bodyAt0 t := by
  unfold defs₀; rw [Defs.onTc_tc]

set_option maxHeartbeats 4000000 in
theorem obligation (c : Dev nD) :
    BodyObligationLoose (dats (F := F) m 0 c) (defs₀ (F := F)) Variants.none () Set.univ forgotten := fun t => by
  rw [bigSep_W0, bigSep_W0, row]
  exact triple_restated (point m c t) rfl .rfl fun _ => .rfl

/-- Nothing is known of the kept rows at the start. -/
theorem keeps_zero (c : Dev nD) : Pipeline.ΦA spec0 c ⊢ (dats (F := F) m 0 c).Φ 0 := by
  rw [show (dats m 0 c).Φ 0 = keeps m c 0 from rfl, PhiA0_eq]
  unfold keeps
  iintro ⟨⟨⟨%d, HU⟩, HC⟩, Hg⟩
  isplitl [HU HC]
  · isplitl [HU]
    · iexists d; isplitr
      · ipureintro; exact fun s h => absurd h (by omega)
      iexact HU
    iexact HC
  iexact Hg

theorem keeps_end (c : Dev nD) : (dats (F := F) m 0 c).Φ (Fin.last cfg0.N) ⊢ Pipeline.ΦA spec0 c := by
  rw [show (dats m 0 c).Φ (Fin.last cfg0.N) = keeps m c cfg0.N from rfl, PhiA0_eq]
  unfold keeps
  iintro ⟨⟨⟨%d, -, HU⟩, HC⟩, Hg⟩
  isplitl [HU HC]
  · isplitl [HU]
    · iexists d; iexact HU
    iexact HC
  iexact Hg

set_option backward.isDefEq.respectTransparency.types false in
/-- The run of the whole program. -/
theorem run : θ_run defs (onTc (τ := τ) (main (F := F))) (s₀ m ρ)
    (fun r => Pipeline.RDat.FramePost cfg0 (fun c => (dats m 0 c).toRForget forgotten) (V m) r ∧ r.2.sem = fun _ => 0) :=
  Pipeline.θ_run_frame_track_forget cfgs (dats m) (0 : Fin 1) launch0 defs₀ Variants.none forgotten m ρ main
    (hbody := obligation m) (hshare := fun c => (dats m 0 c).share_full fun _ => rfl)
    (howed := fun _ _ => rfl) (V := V m) (hmain := hmain m Variants.none) (hA := A_eq m) (hin := keeps_zero m) (hout := keeps_end m)
    (Q' := _) (hQ' := fun _ h => h)

/-- A staged argument's array ends as it was launched. -/
theorem kept (c : Dev nD) (w : Fin cfg0.W) (h : forgotten w = false) (hin : (cfg0.spec w).isOut = false)
    {X : Buf (Elt F) ((cfg0.win w).arr.view.loc (c.tc : Thread nD τ))}
    (hX : ((dats m 0 c).toRForget forgotten).ArrAt w cfg0.N X) : X = V m c (Pipeline.arrRef spec0 w) :=
  ((Pipeline.Dat.toRForget_arrAt_iff _ h _ _).mp hX).trans (((dats m 0 c).arrAt_in w hin _).trans (A_eq m c w))

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨(kept m c 0 rfl rfl ((h.1 c).1 0)).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (kept m c 12 rfl rfl ((h.1 c).1 12)).trans (V_main_arg7 m c),
    (kept m c 13 rfl rfl ((h.1 c).1 13)).trans (V_main_arg8 m c),
    (kept m c 14 rfl rfl ((h.1 c).1 14)).trans (V_main_arg9 m c),
    (kept m c 15 rfl rfl ((h.1 c).1 15)).trans (V_main_arg10 m c),
    (kept m c 16 rfl rfl ((h.1 c).1 16)).trans (V_main_arg11 m c)⟩, h.2⟩) (run m ρ)

/-- The three output arrays end at what the blocks make, and the arguments end unchanged. -/
theorem outputs : θ_run defs (onTc (τ := τ) (main (F := F))) ⟨m, fun _ => 0, ρ⟩ (fun r => ∀ c : Dev nD,
      r.2.mem ((c.tc : Thread nD τ).loc main_v33_0) = (dats m 0 c).arrAt 17 cfg0.N
      ∧ r.2.mem ((c.tc : Thread nD τ).loc main_v33_1) = (dats m 0 c).arrAt 18 cfg0.N
      ∧ r.2.mem ((c.tc : Thread nD τ).loc main_v33_4) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.Dat.toRForget_arrAt_iff _ rfl _ _).mp ((h.1 c).1 17),
    (Pipeline.Dat.toRForget_arrAt_iff _ rfl _ _).mp ((h.1 c).1 18),
    (Pipeline.Dat.toRForget_arrAt_iff _ rfl _ _).mp ((h.1 c).1 21),
    (kept m c 0 rfl rfl ((h.1 c).1 0)).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    (kept m c 12 rfl rfl ((h.1 c).1 12)).trans (V_main_arg7 m c),
    (kept m c 13 rfl rfl ((h.1 c).1 13)).trans (V_main_arg8 m c),
    (kept m c 14 rfl rfl ((h.1 c).1 14)).trans (V_main_arg9 m c),
    (kept m c 15 rfl rfl ((h.1 c).1 15)).trans (V_main_arg10 m c),
    (kept m c 16 rfl rfl ((h.1 c).1 16)).trans (V_main_arg11 m c)⟩) (run m ρ)

end Cert.MixInIdeal.Block

end
-- ==== Proof.MixIn.Element.lean ====
/-
  The elements of the input mixer, over the extended reals: what the kernel computes from one block of rows, and what
  the reference says, both as sums over the normalised row.
-/
module

public import proofs.«01_k».proof.Proof.Ffn.Value
public import proofs.«01_k».proof.Proof.Gen.MixInIdeal.Skeleton
public import proofs.«01_k».proof.Proof.Gen.MixInReferenceIdeal.Read
public import Idealize.ShloMosaic.Lib.Pointwise

@[expose] public section

set_option maxRecDepth 16384

noncomputable section

namespace Cert.MixInIdeal.Block

open Cert.MixInIdeal Cert.MixInIdeal.Gen Idealize.ShloMosaic Idealize.ShloMosaic.TcCoe Idealize.SL.Sem
open scoped BigOperators

/-- One projected element: the row `x`, normalised and scaled by `n`, against one column `w` of the weight. -/
def proj (x n w : Fin 1024 → EReal) : EReal := ∑ e, Cert.FfnIdeal.Block.normed x n e * w e

theorem proj_congr {x x' n n' w w' : Fin 1024 → EReal} (hx : ∀ e, x e = x' e) (hn : ∀ e, n e = n' e) (hw : ∀ e, w e = w' e) :
    proj x n w = proj x' n' w' := by
  rw [funext hx, funext hn, funext hw]

/-- One element of the gated convolution: `b` gates three products, the oldest first. -/
def conv (b w0 w1 w2 u0 u1 u2 : EReal) : EReal := b * (w0 * u0 + w1 * u1 + w2 * u2)

variable (x0 : Vec Ideal S1x512x1024 .f32) (x1 : Vec Ideal S1x1024 .f32)

theorem norm_apply (r : Fin 512) (e : Fin 1024) :
    k0_pay4 (F := Ideal) x0 x1 (ix2 r e)
      = Cert.FfnIdeal.Block.normed (fun e => x0 (ix3 0 r e)) (fun e => x1 (ix2 0 e)) e := by
  pointwise [k0_pay4, Cert.FfnIdeal.Block.normed]

/-- The three convolution streams side by side. -/
theorem streams_apply (x2 : Vec Ideal S1024x768 .bf16) (r : Fin 512) (j : Fin 768) :
    k0_pay5 (F := Ideal) x0 x1 x2 (ix2 r j)
      = proj (fun e => x0 (ix3 0 r e)) (fun e => x1 (ix2 0 e)) (fun e => x2 (ix2 e j)) := by
  unfold proj
  simp only [← norm_apply]
  pointwise [k0_pay5]

/-- The product the convolution runs over. -/
theorem product_apply (x2 : Vec Ideal S1024x768 .bf16) (r : Fin 512) (d : Fin 256) :
    k0_pay6 (F := Ideal) x0 x1 x2 (ix2 r d)
      = k0_pay5 (F := Ideal) x0 x1 x2 (ix2 r (⟨512 + d.val, by omega⟩ : Fin 768))
          * k0_pay5 (F := Ideal) x0 x1 x2 (ix2 r (⟨d.val, by omega⟩ : Fin 768)) := by
  unfold k0_pay6
  generalize k0_pay5 (F := Ideal) x0 x1 x2 = z
  pointwise

theorem stored_apply (x2 : Vec Ideal S1024x768 .bf16) : k0_pay7 (F := Ideal) x0 x1 x2 = k0_pay6 (F := Ideal) x0 x1 x2 := by
  unfold k0_pay7
  exact shapeCast_self _ _

theorem last_rows_apply (u : FVec Ideal S512x256 .f32) (r : Fin 8) (d : Fin 256) :
    k0_pay11 (F := Ideal) u (ix2 r d) = u (ix2 (⟨504 + r.val, by omega⟩ : Fin 512) d) := by
  pointwise [k0_pay11]

theorem cleared_apply (r : Fin 8) (d : Fin 256) : k0_pay2 (F := Ideal) (ix2 r d) = 0 := by
  pointwise [k0_pay2]

theorem conv_apply (z : FVec Ideal S512x768 .f32) (u p q : FVec Ideal S512x256 .f32) (x3 : Vec Ideal S8x256 .f32)
    (r : Fin 512) (d : Fin 256) :
    k0_pay10 (F := Ideal) z u p q (k0_pay8 x3) (k0_pay9 x3) (ix3 0 r d)
      = conv (z (ix2 r (⟨256 + d.val, by omega⟩ : Fin 768))) (x3 (ix2 0 d)) (x3 (ix2 1 d)) (x3 (ix2 2 d))
          (q (ix2 r d)) (p (ix2 r d)) (u (ix2 r d)) := by
  unfold conv
  pointwise [k0_pay10, k0_pay8, k0_pay9]

theorem recur_apply (x4 : Vec Ideal S1024x1024 .bf16) (r : Fin 512) (j : Fin 1024) :
    k0_pay12 (F := Ideal) (k0_pay4 x0 x1) x4 (ix3 0 r j)
      = proj (fun e => x0 (ix3 0 r e)) (fun e => x1 (ix2 0 e)) (fun e => x4 (ix2 e j)) := by
  unfold proj
  simp only [← norm_apply]
  generalize k0_pay4 (F := Ideal) x0 x1 = z
  pointwise [k0_pay12]

/-- The value heads' projection, with positions along the lanes. -/
theorem values_apply (x7 : Vec Ideal S1024x1024 .bf16) (j : Fin 1024) (l : Fin 512) :
    k0_pay53 (F := Ideal) (k0_pay4 x0 x1) x7 (ix2 j l)
      = proj (fun e => x0 (ix3 0 l e)) (fun e => x1 (ix2 0 e)) (fun e => x7 (ix2 j e)) := by
  unfold proj
  simp only [← norm_apply, mul_comm (k0_pay4 (F := Ideal) x0 x1 _)]
  generalize k0_pay4 (F := Ideal) x0 x1 = z
  pointwise [k0_pay53]

theorem ones_row_apply (r : Fin 128) (l : Fin 512) : k0_pay54 (F := Ideal) (ix2 r l) = if r.val = 64 then 1 else 0 := by
  pointwise [k0_pay54]
  have e : IntOp.cmpi CmpIPredicate.eq (BitVec.ofNat 32 r.val) 64#32 = if r.val = 64 then 1#1 else 0#1 := by
    revert r; decide
  rw [e]
  split <;> simp [FloatOps.sitofp]

/-- One head's block of the transposed values: its 128 rows of the projection, plus the row of ones. -/
def head (z : FVec Ideal S1024x512 .f32) (o : Fin 2 → ℕ) (h : S1024x512.Slices o S128x512) : FVec Ideal S1x1x1x128x512 .bf16 :=
  shapeCast S1x1x1x128x512 (truncf .bf16 (addf (extractStridedSlice S128x512 o z h) (k0_pay54 (F := Ideal))) bitsLt_bf16_f32)
    shapeCasts_S128x512_S1x1x1x128x512

theorem head_apply (z : FVec Ideal S1024x512 .f32) (a : ℕ) (ha : a + 128 ≤ 1024) (h : S1024x512.Slices ![a, 0] S128x512)
    (r : Fin 128) (l : Fin 512) :
    head z ![a, 0] h (ix5 0 0 0 r l) = z (ix2 (⟨a + r.val, by omega⟩ : Fin 1024) l) + if r.val = 64 then 1 else 0 := by
  rw [← ones_row_apply r l]
  unfold head
  generalize k0_pay54 (F := Ideal) = w
  pointwise

end Cert.MixInIdeal.Block

namespace Cert.MixInReferenceIdeal.Read

open Cert.MixInReferenceIdeal Cert.MixInReferenceIdeal.Gen Idealize.ShloMosaic Idealize.ShloMosaic.TcCoe Idealize.SL.Sem
open Cert.MixInIdeal.Block (proj conv)
open scoped BigOperators

variable (x0 : FVec Ideal S4x8192x1024 .f32) (x1 : FVec Ideal S1024 .f32) (x2 : FVec Ideal S1024x3336 .f32) (b : Fin 4) (l : Fin 8192)

/-- The reference's normalised row. -/
theorem normed_apply (e : Fin 1024) : val_main_v12 (F := Ideal) x0 x1 (ix3 b l e)
    = Cert.FfnIdeal.Block.normed (fun e => x0 (ix3 b l e)) (fun e => x1 (ix1 e)) e := by
  unfold Cert.FfnIdeal.Block.normed
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

/-- The reference's projection. -/
theorem proj_apply (j : Fin 3336) : val_main_v13 (F := Ideal) x0 x1 x2 (ix3 b l j)
    = proj (fun e => x0 (ix3 b l e)) (fun e => x1 (ix1 e)) (fun e => x2 (ix2 e j)) := by
  unfold proj
  simp only [← normed_apply]
  unfold val_main_v13
  generalize val_main_v12 (F := Ideal) x0 x1 = z
  pointwise

theorem recur_apply (j : Fin 1024) : val_main_v17 (F := Ideal) x0 x1 x2 (ix3 b l j)
    = val_main_v13 (F := Ideal) x0 x1 x2 (ix3 b l (⟨768 + j.val, by omega⟩ : Fin 3336)) := by
  unfold val_main_v17
  generalize val_main_v13 (F := Ideal) x0 x1 x2 = z
  pointwise

theorem product_apply (d : Fin 256) : val_main_v18 (F := Ideal) x0 x1 x2 (ix3 b l d)
    = val_main_v13 (F := Ideal) x0 x1 x2 (ix3 b l (⟨512 + d.val, by omega⟩ : Fin 3336))
      * val_main_v13 (F := Ideal) x0 x1 x2 (ix3 b l (⟨d.val, by omega⟩ : Fin 3336)) := by
  unfold val_main_v18 val_main_v16 val_main_v14
  generalize val_main_v13 (F := Ideal) x0 x1 x2 = z
  pointwise

/-- The product with two rows of zeros before it. -/
theorem padded_apply (k : Fin 8194) (d : Fin 256) : val_main_v19 (F := Ideal) x0 x1 x2 (ix3 b k d)
    = if h : 2 ≤ k.val then val_main_v18 (F := Ideal) x0 x1 x2 (ix3 b (⟨k.val - 2, by omega⟩ : Fin 8192) d) else 0 := by
  unfold val_main_v19
  generalize val_main_v18 (F := Ideal) x0 x1 x2 = z
  pointwise [val_main_call0_v0, val_main_c]
  have hk := k.isLt
  by_cases h : 2 ≤ k.val
  · rw [dif_pos ⟨h, by omega⟩, dif_pos h]
  · rw [dif_neg (fun h' => h h'.1), dif_neg h]
    simp [FloatOps.sitofp]

theorem conv_apply (x3 : FVec Ideal S3x256 .f32) (d : Fin 256) : val_main_v47 (F := Ideal) x0 x1 x2 x3 (ix3 b l d)
    = conv (val_main_v13 (F := Ideal) x0 x1 x2 (ix3 b l (⟨256 + d.val, by omega⟩ : Fin 3336)))
        (x3 (ix2 0 d)) (x3 (ix2 1 d)) (x3 (ix2 2 d))
        (val_main_v19 (F := Ideal) x0 x1 x2 (ix3 b (⟨l.val, by omega⟩ : Fin 8194) d))
        (val_main_v19 (F := Ideal) x0 x1 x2 (ix3 b (⟨1 + l.val, by omega⟩ : Fin 8194) d))
        (val_main_v19 (F := Ideal) x0 x1 x2 (ix3 b (⟨2 + l.val, by omega⟩ : Fin 8194) d)) := by
  unfold conv val_main_v47 val_main_v40 val_main_v39 val_main_v38 val_main_v32 val_main_v31 val_main_v25 val_main_v22 val_main_v28
    val_main_v35 val_main_v15 val_main_v24 val_main_v23 val_main_v21 val_main_v20 val_main_v30 val_main_v29 val_main_v27
    val_main_v26 val_main_v37 val_main_v36 val_main_v34 val_main_v33
  generalize val_main_v13 (F := Ideal) x0 x1 x2 = z
  generalize val_main_v19 (F := Ideal) x0 x1 x2 = u
  pointwise

/-- The transposed values: 64 rows of the head's projection, a row of ones, then zeros. -/
theorem values_apply (h : Fin 8) (q : Fin 16) (r : Fin 128) (s : Fin 512) :
    val_main_v48 (F := Ideal) x0 x1 x2 (ix5 b h q r s)
      = if hr : r.val < 64 then val_main_v13 (F := Ideal) x0 x1 x2
          (ix3 b (⟨512 * q.val + s.val, by omega⟩ : Fin 8192) (⟨2816 + (64 * h.val + r.val), by omega⟩ : Fin 3336))
        else if r.val = 64 then 1 else 0 := by
  unfold val_main_v48 val_main_v46 val_main_v43 val_main_v42 val_main_v41
  generalize val_main_v13 (F := Ideal) x0 x1 x2 = z
  pointwise [val_main_v44, val_main_v45, val_main_cst_2, val_main_cst_3]
  simp only [Nat.mul_comm 512 q.val, Nat.mul_comm 64 h.val]
  by_cases hr : r.val < 64
  · rw [dif_pos hr, dif_pos hr]
  · rw [dif_neg hr, dif_neg hr]
    by_cases h1 : r.val = 64
    · rw [dif_pos (by omega), if_pos h1]
    · rw [dif_neg (by omega), if_neg h1]

end Cert.MixInReferenceIdeal.Read

end
-- ==== Proof.MixIn.Host.lean ====
/-
  What the host code prepares for the input mixer, over the extended reals: the norm's scale as a row, the columns of the
  weight for each product, the padded taps.
-/
module

public import proofs.«01_k».proof.Proof.Gen.MixInIdeal.Frame.Runs
public import Idealize.ShloMosaic.Lib.Pipeline.ValueKit
public import Idealize.ShloMosaic.Lib.StableHlo.ReadAt

@[expose] public section

set_option maxRecDepth 16384

noncomputable section

namespace Cert.MixInIdeal.Block

open Cert.MixInIdeal Cert.MixInIdeal.Gen Idealize.ShloMosaic Idealize.ShloMosaic.TcCoe Idealize.SL.Sem

variable (m : (ℓ : Loc nD τ sig) → Buf (Elt Ideal) ℓ) (c : Dev nD)

set_option maxHeartbeats 4000000 in
/-- The scale, as a row. -/
theorem scale_host (e : Fin 1024) : (V m c main_v0 : FVec Ideal S1x1024 .f32) (ix2 0 e) = (m ((c : Thread nD τ).loc main_arg1) : FVec Ideal S1024 .f32) (ix1 e) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_simp
  pointwise

/-- The launch contents of the weight and the taps. -/
abbrev hostW : FVec Ideal S1024x3336 .f32 := m ((c : Thread nD τ).loc main_arg2)
abbrev hostT : FVec Ideal S3x256 .f32 := m ((c : Thread nD τ).loc main_arg3)

set_option maxHeartbeats 4000000 in
/-- The columns of the three streams of the convolution. -/
theorem stream_host (e : Fin 1024) (j : Fin 768) :
    (V m c main_v2 : FVec Ideal S1024x768 .bf16) (ix2 e j) = hostW m c (ix2 e (⟨j.val, by omega⟩ : Fin 3336)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at

set_option maxHeartbeats 4000000 in
/-- The columns of the recurrent part. -/
theorem recur_host (e : Fin 1024) (j : Fin 1024) :
    (V m c main_v5 : FVec Ideal S1024x1024 .bf16) (ix2 e j) = hostW m c (ix2 e (⟨768 + j.val, by omega⟩ : Fin 3336)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at

set_option maxHeartbeats 4000000 in
/-- The taps, above rows of padding. -/
theorem tap_host (k : Fin 3) (d : Fin 256) :
    (V m c main_v3 : FVec Ideal S8x256 .f32) (ix2 (⟨k.val, by omega⟩ : Fin 8) d) = hostT m c (ix2 k d) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at

set_option maxHeartbeats 4000000 in
/-- The transposed columns of the values, each head's 64 above 64 rows of zeros. -/
theorem value_host (h : Fin 8) (r : Fin 128) (e : Fin 1024) :
    (V m c main_v21 : FVec Ideal S1024x1024 .bf16) (ix2 (⟨128 * h.val + r.val, by omega⟩ : Fin 1024) e)
      = if hr : r.val < 64 then hostW m c (ix2 e (⟨2816 + (64 * h.val + r.val), by omega⟩ : Fin 3336)) else (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_reads_at
  have e1 : (128 * h.val + r.val) / 128 = h.val := by omega
  have e2 : (128 * h.val + r.val) % 128 = r.val := by omega
  have e3 : h.val * 64 = 64 * h.val := by omega
  have e4 : FloatOps.sitofp (F := Ideal) FTy.f32 0#32 = (0 : EReal) := by simp [FloatOps.sitofp]
  simp only [e1, e2, e3, h.isLt, true_and, e4]

end Cert.MixInIdeal.Block

end
-- ==== Proof.MixIn.Value.lean ====
/-
  The input mixer's blocks are the reference's blocks, over the extended reals: the gated short convolution with the rows
  before the block, the recurrent part's projection and the transposed values with their row of ones.
-/
module

public import proofs.«01_k».proof.Proof.MixIn.Element
public import proofs.«01_k».proof.Proof.MixIn.History
public import proofs.«01_k».proof.Proof.MixIn.Host
public import Idealize.ShloMosaic.Lib.Pipeline.ValueKit

@[expose] public section

set_option maxRecDepth 16384

noncomputable section

namespace Cert.MixInIdeal.Block

open Cert.MixInIdeal Cert.MixInIdeal.Gen Idealize.ShloMosaic Idealize.ShloMosaic.TcCoe Idealize.SL.Sem
open Cert.MixInReferenceIdeal.Read (val_main_v13 val_main_v17 val_main_v18 val_main_v19 val_main_v47 val_main_v48)
open scoped BigOperators

/-- Which block of its array each window holds at a grid point. -/
theorem places : ∀ t : Fin cfg0.N, win0_0.index t = ![t.val / 16, t.val % 16, 0] ∧ win0_1.index t = ![0, 0]
    ∧ win0_2.index t = ![0, 0] ∧ win0_3.index t = ![0, 0] ∧ win0_4.index t = ![0, 0] ∧ win0_7.index t = ![0, 0]
    ∧ win0_17.index t = ![t.val / 16, t.val % 16, 0] ∧ win0_18.index t = ![t.val / 16, t.val % 16, 0]
    ∧ win0_21.index t = ![t.val / 16, 0, t.val % 16, 0, 0] ∧ t.val < 64 :=
  (by decide +kernel : ∀ t : Fin grid0.N, _)

theorem point_lt (t : Fin cfg0.N) : t.val < 64 := (places t).2.2.2.2.2.2.2.2.2

/-- The point's batch entry. -/
def batch (t : Fin cfg0.N) : Fin 4 := ⟨t.val / 16, by have := point_lt t; omega⟩
/-- The position of one of the point's rows. -/
def pos (t : Fin cfg0.N) (r : Fin 512) : Fin 8192 := ⟨t.val % 16 * 512 + r.val, by omega⟩

variable (m : (ℓ : Loc nD τ sig) → Buf (Elt Ideal) ℓ) (c : Dev nD) (t : Fin cfg0.N)

/-- The rows, the norm's scale, the weight and the convolution's taps at launch. -/
abbrev X : FVec Ideal S4x8192x1024 .f32 := m ((c : Thread nD τ).loc main_arg0)
abbrev N : FVec Ideal S1024 .f32 := m ((c : Thread nD τ).loc main_arg1)
abbrev W : FVec Ideal S1024x3336 .f32 := m ((c : Thread nD τ).loc main_arg2)
abbrev T : FVec Ideal S3x256 .f32 := m ((c : Thread nD τ).loc main_arg3)

theorem row_block (r : Fin 512) (e : Fin 1024) : iblk m c 0 t (ix3 0 r e) = X m c (ix3 (batch t) (pos t r) e) := by
  blk_ext [iblk, V, places t] <;> rfl

theorem scale_block (e : Fin 1024) : iblk m c 1 t (ix2 0 e) = N m c (ix1 e) := by
  have h : ((View.whole main_v0).slice (win0_1.rect t)).emb (ix2 0 e) = ix2 0 e := by
    blk_ext [places t] <;> rfl
  exact (congrArg (V m c main_v0) h).trans (scale_host m c e)

theorem stream_block (e : Fin 1024) (j : Fin 768) :
    iblk m c 2 t (ix2 e j) = W m c (ix2 e (⟨j.val, by omega⟩ : Fin 3336)) := by
  have h : ((View.whole main_v2).slice (win0_2.rect t)).emb (ix2 e j) = ix2 e j := by
    blk_ext [places t] <;> rfl
  exact (congrArg (V m c main_v2) h).trans (stream_host m c e j)

theorem tap_block (k : Fin 3) (d : Fin 256) : iblk m c 3 t (ix2 (⟨k.val, by omega⟩ : Fin 8) d) = T m c (ix2 k d) := by
  have h : ((View.whole main_v3).slice (win0_3.rect t)).emb (ix2 (⟨k.val, by omega⟩ : Fin 8) d) = ix2 (⟨k.val, by omega⟩ : Fin 8) d := by
    blk_ext [places t] <;> rfl
  exact (congrArg (V m c main_v3) h).trans (tap_host m c k d)

theorem recur_block (e : Fin 1024) (j : Fin 1024) :
    iblk m c 4 t (ix2 e j) = W m c (ix2 e (⟨768 + j.val, by omega⟩ : Fin 3336)) := by
  have h : ((View.whole main_v5).slice (win0_4.rect t)).emb (ix2 e j) = ix2 e j := by
    blk_ext [places t] <;> rfl
  exact (congrArg (V m c main_v5) h).trans (recur_host m c e j)

theorem value_block (h : Fin 8) (r : Fin 128) (e : Fin 1024) :
    iblk m c 7 t (ix2 (⟨128 * h.val + r.val, by omega⟩ : Fin 1024) e)
      = if hr : r.val < 64 then W m c (ix2 e (⟨2816 + (64 * h.val + r.val), by omega⟩ : Fin 3336)) else 0 := by
  have hi : ((View.whole main_v21).slice (win0_7.rect t)).emb (ix2 (⟨128 * h.val + r.val, by omega⟩ : Fin 1024) e) = ix2 (⟨128 * h.val + r.val, by omega⟩ : Fin 1024) e := by
    blk_ext [places t] <;> rfl
  exact (congrArg (V m c main_v21) hi).trans (value_host m c h r e)

/-- The reference's projection at one of the point's rows. -/
abbrev P (r : Fin 512) (j : Fin 3336) : EReal := val_main_v13 (F := Ideal) (X m c) (N m c) (W m c) (ix3 (batch t) (pos t r) j)

theorem proj_block (r : Fin 512) (w : Fin 1024 → EReal) (j : Fin 3336) (hw : ∀ e, w e = W m c (ix2 e j)) :
    proj (fun e => iblk m c 0 t (ix3 0 r e)) (fun e => iblk m c 1 t (ix2 0 e)) w = P m c t r j := by
  unfold P
  rw [Cert.MixInReferenceIdeal.Read.proj_apply]
  exact proj_congr (fun e => row_block m c t r e) (fun e => scale_block m c t e) hw

theorem streams_block (r : Fin 512) (j : Fin 768) :
    k0_pay5 (F := Ideal) (iblk m c 0 t) (iblk m c 1 t) (iblk m c 2 t) (ix2 r j) = P m c t r ⟨j.val, by omega⟩ := by
  rw [streams_apply]
  exact proj_block m c t r _ _ fun e => stream_block m c t e j

/-- The gated values of the point's rows. -/
theorem product_block (r : Fin 512) (d : Fin 256) : k0_pay6 (F := Ideal) (iblk m c 0 t) (iblk m c 1 t) (iblk m c 2 t) (ix2 r d)
    = val_main_v18 (F := Ideal) (X m c) (N m c) (W m c) (ix3 (batch t) (pos t r) d) := by
  rw [product_apply, Cert.MixInReferenceIdeal.Read.product_apply, streams_block, streams_block]

/-- The padded gated values of the reference, two places on. -/
theorem padded_shift (b : Fin 4) (l : Fin 8192) (k : Fin 8194) (d : Fin 256) (h : k.val = l.val + 2) :
    val_main_v19 (F := Ideal) (X m c) (N m c) (W m c) (ix3 b k d)
      = val_main_v18 (F := Ideal) (X m c) (N m c) (W m c) (ix3 b l d) := by
  rw [Cert.MixInReferenceIdeal.Read.padded_apply, dif_pos (by omega)]
  exact congrArg (fun l => val_main_v18 (F := Ideal) (X m c) (N m c) (W m c) (ix3 b l d)) (Fin.ext (by show k.val - 2 = l.val; omega))

/-- The two rows before the block are the reference's: zeros at the start of the sequence. -/
theorem before_block (k : Fin 8) (hk : 6 ≤ k.val) (d : Fin 256) : rowsBefore m c t (ix2 k d)
    = val_main_v19 (F := Ideal) (X m c) (N m c) (W m c) (ix3 (batch t) (⟨t.val % 16 * 512 + (k.val - 6), by omega⟩ : Fin 8194) d) := by
  have ht := point_lt t
  unfold rowsBefore
  by_cases h : t.val % 16 = 0
  · rw [if_pos h, cleared_apply, Cert.MixInReferenceIdeal.Read.padded_apply, dif_neg]
    show ¬ 2 ≤ t.val % 16 * 512 + (k.val - 6)
    omega
  · rw [if_neg h]
    unfold lastRows
    rw [last_rows_apply, product_block]
    have e : batch (⟨t.val - 1, by omega⟩ : Fin cfg0.N) = batch t := Fin.ext (by show (t.val - 1) / 16 = t.val / 16; omega)
    rw [e]
    exact (padded_shift m c (batch t) _ _ d (by
      show t.val % 16 * 512 + (k.val - 6) = (t.val - 1) % 16 * 512 + (504 + k.val) + 2; omega)).symm

/-- The block's rows under the rows before it, from the second row before it on. -/
theorem joined_block (k : Fin 520) (hk : 6 ≤ k.val) (d : Fin 256) :
    joined (rowsBefore m c t) (k0_pay6 (F := Ideal) (iblk m c 0 t) (iblk m c 1 t) (iblk m c 2 t)) (ix2 k d)
      = val_main_v19 (F := Ideal) (X m c) (N m c) (W m c) (ix3 (batch t) (⟨t.val % 16 * 512 + (k.val - 6), by omega⟩ : Fin 8194) d) := by
  have h5 := k.isLt
  by_cases h : k.val < 8
  · exact (joined_low _ _ k d h).trans (before_block m c t ⟨k.val, h⟩ hk d)
  · refine (joined_high _ _ k d h).trans ((product_block m c t _ d).trans ?_)
    exact (padded_shift m c (batch t) _ _ d (by show t.val % 16 * 512 + (k.val - 6) = t.val % 16 * 512 + (k.val - 8) + 2; omega)).symm

/-- The convolution's block. -/
theorem yc_block (r : Fin 512) (d : Fin 256) :
    ycBlock (rowsBefore m c t) (iblk m c 0 t) (iblk m c 1 t) (iblk m c 2 t) (iblk m c 3 t) (ix3 0 r d)
      = val_main_v47 (F := Ideal) (X m c) (N m c) (W m c) (T m c) (ix3 (batch t) (pos t r) d) := by
  unfold ycBlock
  rw [conv_apply, Cert.MixInReferenceIdeal.Read.conv_apply, streams_block, product_block]
  have h0 : iblk m c 3 t (ix2 (0 : Fin 8) d) = T m c (ix2 0 d) := tap_block m c t 0 d
  have h1 : iblk m c 3 t (ix2 (1 : Fin 8) d) = T m c (ix2 1 d) := tap_block m c t 1 d
  have h2 : iblk m c 3 t (ix2 (2 : Fin 8) d) = T m c (ix2 2 d) := tap_block m c t 2 d
  have e6 : shifted 6 (by omega) (joined (rowsBefore m c t) (k0_pay6 (F := Ideal) (iblk m c 0 t) (iblk m c 1 t) (iblk m c 2 t))) (ix2 r d)
      = val_main_v19 (F := Ideal) (X m c) (N m c) (W m c) (ix3 (batch t) (⟨(pos t r).val, by omega⟩ : Fin 8194) d) :=
    (joined_block m c t (⟨6 + r.val, by omega⟩ : Fin 520) (by show 6 ≤ 6 + r.val; omega) d).trans
      (congrArg (fun l => val_main_v19 (F := Ideal) (X m c) (N m c) (W m c) (ix3 (batch t) l d)) (Fin.ext (by
        show t.val % 16 * 512 + (6 + r.val - 6) = t.val % 16 * 512 + r.val; omega)))
  have e7 : shifted 7 (by omega) (joined (rowsBefore m c t) (k0_pay6 (F := Ideal) (iblk m c 0 t) (iblk m c 1 t) (iblk m c 2 t))) (ix2 r d)
      = val_main_v19 (F := Ideal) (X m c) (N m c) (W m c) (ix3 (batch t) (⟨1 + (pos t r).val, by omega⟩ : Fin 8194) d) :=
    (joined_block m c t (⟨7 + r.val, by omega⟩ : Fin 520) (by show 6 ≤ 7 + r.val; omega) d).trans
      (congrArg (fun l => val_main_v19 (F := Ideal) (X m c) (N m c) (W m c) (ix3 (batch t) l d)) (Fin.ext (by
        show t.val % 16 * 512 + (7 + r.val - 6) = 1 + (t.val % 16 * 512 + r.val); omega)))
  have e8 := padded_shift m c (batch t) (pos t r) (⟨2 + (pos t r).val, by omega⟩ : Fin 8194) d (by show 2 + (pos t r).val = _; omega)
  rw [e6, e7, e8, h0, h1, h2]

/-- The recurrent part's block. -/
theorem recur_out_block (r : Fin 512) (j : Fin 1024) : recurBlock (iblk m c 0 t) (iblk m c 1 t) (iblk m c 4 t) (ix3 0 r j)
    = val_main_v17 (F := Ideal) (X m c) (N m c) (W m c) (ix3 (batch t) (pos t r) j) := by
  unfold recurBlock
  rw [recur_apply, Cert.MixInReferenceIdeal.Read.recur_apply]
  exact proj_block m c t r _ _ fun e => recur_block m c t e j

theorem proj_zero (x n : Fin 1024 → EReal) : proj x n (fun _ => 0) = 0 := by
  unfold proj
  simp only [mul_zero, Finset.sum_const_zero]

/-- One head's block, as the kernel names it. -/
theorem heads_apply (x0 : Vec Ideal S1x512x1024 .f32) (x1 : Vec Ideal S1x1024 .f32) (x7 : Vec Ideal S1024x1024 .bf16)
    (h : Fin 8) (r : Fin 128) (l : Fin 512) :
    heads x0 x1 x7 h (ix5 0 0 0 r l)
      = k0_pay53 (F := Ideal) (k0_pay4 x0 x1) x7 (ix2 (⟨128 * h.val + r.val, by omega⟩ : Fin 1024) l)
        + if r.val = 64 then 1 else 0 := by
  match h with
  | ⟨0, _⟩ => exact head_apply (k0_pay53 (F := Ideal) (k0_pay4 x0 x1) x7) 0 (by omega) slices_S1024x512_o0_0_S128x512 r l
  | ⟨1, _⟩ => exact head_apply (k0_pay53 (F := Ideal) (k0_pay4 x0 x1) x7) 128 (by omega) slices_S1024x512_o128_0_S128x512 r l
  | ⟨2, _⟩ => exact head_apply (k0_pay53 (F := Ideal) (k0_pay4 x0 x1) x7) 256 (by omega) slices_S1024x512_o256_0_S128x512 r l
  | ⟨3, _⟩ => exact head_apply (k0_pay53 (F := Ideal) (k0_pay4 x0 x1) x7) 384 (by omega) slices_S1024x512_o384_0_S128x512 r l
  | ⟨4, _⟩ => exact head_apply (k0_pay53 (F := Ideal) (k0_pay4 x0 x1) x7) 512 (by omega) slices_S1024x512_o512_0_S128x512 r l
  | ⟨5, _⟩ => exact head_apply (k0_pay53 (F := Ideal) (k0_pay4 x0 x1) x7) 640 (by omega) slices_S1024x512_o640_0_S128x512 r l
  | ⟨6, _⟩ => exact head_apply (k0_pay53 (F := Ideal) (k0_pay4 x0 x1) x7) 768 (by omega) slices_S1024x512_o768_0_S128x512 r l
  | ⟨7, _⟩ => exact head_apply (k0_pay53 (F := Ideal) (k0_pay4 x0 x1) x7) 896 (by omega) slices_S1024x512_o896_0_S128x512 r l

/-- The transposed values' block. -/
theorem value_out_block (h : Fin 8) (r : Fin 128) (l : Fin 512) :
    valueBlock (iblk m c 0 t) (iblk m c 1 t) (iblk m c 7 t) (ix5 0 h 0 r l)
      = val_main_v48 (F := Ideal) (X m c) (N m c) (W m c)
          (ix5 (batch t) h (⟨t.val % 16, by omega⟩ : Fin 16) r l) := by
  rw [Cert.MixInReferenceIdeal.Read.values_apply]
  refine (heads_apply (iblk m c 0 t) (iblk m c 1 t) (iblk m c 7 t) h r l).trans ?_
  rw [values_apply]
  by_cases hr : r.val < 64
  · rw [dif_pos hr, if_neg (by omega), add_zero, proj_block m c t l _ _ fun e => (value_block m c t h r e).trans (dif_pos hr)]
    exact congrArg (fun p => val_main_v13 (F := Ideal) (X m c) (N m c) (W m c) (ix3 (batch t) p _)) (Fin.ext (by
      show t.val % 16 * 512 + l.val = 512 * (t.val % 16) + l.val; omega))
  · rw [dif_neg hr, proj_congr (fun _ => rfl) (fun _ => rfl) fun e => (value_block m c t h r e).trans (dif_neg hr), proj_zero, zero_add]

end Cert.MixInIdeal.Block

end
-- ==== Proof.MixIn.Output.lean ====
/-
  The input mixer's three output arrays are the reference's results, over the extended reals.
-/
module

public import proofs.«01_k».proof.Proof.MixIn.Frame
public import proofs.«01_k».proof.Proof.MixIn.Value

@[expose] public section

set_option maxRecDepth 16384

noncomputable section

namespace Cert.MixInIdeal.Block

open Cert.MixInIdeal Cert.MixInIdeal.Gen Idealize.ShloMosaic Idealize.ShloMosaic.TcCoe Idealize.SL.Sem
open Cert.MixInReferenceIdeal.Read (val_main_v17 val_main_v47 val_main_v48)

variable (m : (ℓ : Loc nD τ sig) → Buf (Elt Ideal) ℓ) (c : Dev nD)

/-- The convolution's output. -/
theorem final_yc : (dats m 0 c).arrAt 17 cfg0.N = val_main_v47 (F := Ideal) (X m c) (N m c) (W m c) (T m c) := by
  refine (dats m 0 c).arrAt_eq_of_covers 17 _ (by decide +kernel) fun t hf y => ?_
  blk_simp
  rw [after_17]
  idx_vars y
  obtain rfl : y0 = 0 := Fin.ext (by have := y0.isLt; omega)
  have hi : (((View.whole main_v33_0).slice (win0_17.rect t)).emb (ix3 0 y1 y2) : S4x8192x256.Idx)
      = ix3 (batch t) (pos t y1) y2 := by
    blk_ext [places t] <;> rfl
  refine Eq.trans ?_ (congrArg _ hi).symm
  exact yc_block m c t y1 y2

/-- The recurrent part's projection. -/
theorem final_recur : (dats m 0 c).arrAt 18 cfg0.N = val_main_v17 (F := Ideal) (X m c) (N m c) (W m c) := by
  refine (dats m 0 c).arrAt_eq_of_covers 18 _ (by decide +kernel) fun t hf y => ?_
  blk_simp
  rw [after_18]
  idx_vars y
  obtain rfl : y0 = 0 := Fin.ext (by have := y0.isLt; omega)
  have hi : (((View.whole main_v33_1).slice (win0_18.rect t)).emb (ix3 0 y1 y2) : S4x8192x1024.Idx)
      = ix3 (batch t) (pos t y1) y2 := by
    blk_ext [places t] <;> rfl
  refine Eq.trans ?_ (congrArg _ hi).symm
  exact recur_out_block m c t y1 y2

/-- The transposed values. -/
theorem final_values : (dats m 0 c).arrAt 21 cfg0.N = val_main_v48 (F := Ideal) (X m c) (N m c) (W m c) := by
  refine (dats m 0 c).arrAt_eq_of_covers 21 _ (by decide +kernel) fun t hf y => ?_
  blk_simp
  rw [after_21]
  idx_vars y
  obtain rfl : y0 = 0 := Fin.ext (by have := y0.isLt; omega)
  obtain rfl : y2 = 0 := Fin.ext (by have := y2.isLt; omega)
  have hi : (((View.whole main_v33_4).slice (win0_21.rect t)).emb (ix5 0 y1 0 y3 y4) : S4x8x16x128x512.Idx)
      = ix5 (batch t) y1 (⟨t.val % 16, by omega⟩ : Fin 16) y3 y4 := by
    blk_ext [places t] <;> rfl
  refine Eq.trans ?_ (congrArg _ hi).symm
  exact value_out_block m c t y1 y3 y4

end Cert.MixInIdeal.Block

end
-- ==== Proof.MixIn.Agree.lean ====
/-
  The input mixer's claim: from memories that agree on the arguments, the kernel and the reference end with the same
  convolution output, the same projection for the recurrence and the same transposed values, over the extended reals.
-/
module

public import proofs.«01_k».proof.Defs
public import proofs.«01_k».proof.Proof.MixIn.Output
public import proofs.«01_k».proof.Proof.Gen.MixInReferenceIdeal.Read
public import Idealize.ShloMosaic.Lib.Claim

@[expose] public section

set_option maxRecDepth 16384

noncomputable section

namespace Cert.MixIn

open Idealize.ShloMosaic Idealize.SL.Sem

theorem agree : Cert.algebraic_MixInIdeal_MixInReferenceIdeal := by
  unfold Cert.algebraic_MixInIdeal_MixInReferenceIdeal
  intro m g m' g' _ hagree
  refine ⟨_, _, _, Cert.MixInIdeal.Block.outputs m g, ?_⟩
  refine (θ_run _ _ _).mono (fun r h c => ?_) (Cert.MixInReferenceIdeal.Value.run m' g')
  obtain ⟨h0, h1, h2, h3, -⟩ := hagree c
  obtain ⟨r0, r1, r2, rest⟩ := h c
  refine ⟨r0.trans ?_, r1.trans ?_, r2.trans ?_, rest⟩
  · rw [Cert.MixInReferenceIdeal.Read.val_main_v47_eq, h0, h1, h2, h3]
    exact (Cert.MixInIdeal.Block.final_yc m c).symm
  · refine (Cert.MixInReferenceIdeal.Read.val_main_v17_eq _ _ _).trans ?_
    rw [h0, h1, h2]
    exact (Cert.MixInIdeal.Block.final_recur m c).symm
  · refine (Cert.MixInReferenceIdeal.Read.val_main_v48_eq _ _ _).trans ?_
    rw [h0, h1, h2]
    exact (Cert.MixInIdeal.Block.final_values m c).symm

end Cert.MixIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutReferenceIdeal
public import proofs.«01_k».proof.Proof.Gen.MixIn
public import proofs.«01_k».proof.Proof.Gen.MixIn.Frame.Runs
public import proofs.«01_k».proof.Proof.Gen.MixInIdeal
public import proofs.«01_k».proof.Proof.Gen.MixInIdeal.Frame.Runs
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.Gen.Pre_finite_and_ones
public import proofs.«01_k».proof.Proof.Gen.FfnIdeal.Value
public import proofs.«01_k».proof.Proof.Gen.MixOutIdeal.Value
public import proofs.«01_k».proof.Proof.Gen.MixOutReferenceIdeal.Run
public import proofs.«01_k».proof.Proof.Gen.MixOutReferenceIdeal.Read
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.References
public import proofs.«01_k».proof.Proof.KernelFrame
public import proofs.«01_k».proof.Proof.Fox.Frame
public import proofs.«01_k».proof.Proof.Fox.Agree
public import proofs.«01_k».proof.Proof.Ffn.Agree
public import proofs.«01_k».proof.Proof.MixOut.Agree
public import proofs.«01_k».proof.Proof.MixIn.KernelFrame
public import proofs.«01_k».proof.Proof.MixIn.Frame
public import proofs.«01_k».proof.Proof.MixIn.Agree
public import Idealize.ShloMosaic.Adequacy
public import Idealize.ShloMosaic.Init

@[expose] public section

noncomputable section

-- The frames also say that every semaphore counter ends at zero.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.MixOut.Gen.facts, Cert.MixOutIdeal.Gen.facts, Cert.MixOutReferenceIdeal.Gen.facts, Cert.MixIn.Gen.facts, Cert.MixInIdeal.Gen.facts, Cert.MixInReferenceIdeal.Gen.facts,
  Cert.Pre_finite_and_ones.Gen.facts,
  fun m ρ _ => Cert.Kernel.Fox.frame m ρ,
  fun m ρ _ => Cert.KernelIdeal.Fox.frame m ρ,
  fun m ρ _ => Cert.KernelIdeal.Fox.frame m ρ,
  fun m ρ _ => Cert.References.fox m ρ,
  fun m ρ _ => Cert.References.fox m ρ,
  fun m ρ _ => Cert.Ffn.Gen.frame m ρ,
  fun m ρ _ => Cert.FfnIdeal.Gen.frame m ρ,
  fun m ρ _ => Cert.References.ffn m ρ,
  fun m ρ _ => Cert.MixOut.Gen.frame m ρ,
  fun m ρ _ => Cert.MixOutIdeal.Gen.frame m ρ,
  fun m ρ _ => Cert.References.mixOut m ρ,
  fun m ρ _ => Cert.MixIn.Block.frame m ρ,
  fun m ρ _ => Cert.MixInIdeal.Block.frame m ρ,
  fun m ρ _ => Cert.References.mixIn m ρ,
  IdealRules.named_const.statement Cert.KernelIdeal.κ "mask" .f32 0xF149F2CA#32 ⊥ rfl,
  Cert.KernelIdeal.Fox.agree,
  trivial,
  Cert.Ffn.agree,
  trivial,
  Cert.MixOut.agree,
  trivial,
  Cert.MixIn.agree⟩

end Cert.Proof

end
